-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v48) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4096x8x64 : Shape := ⟨4, ![16, 4096, 8, 64]⟩
abbrev S16x4096x2x64 : Shape := ⟨4, ![16, 4096, 2, 64]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S16x4096x2x64 : S_.BroadcastsInDim S16x4096x2x64 (![] : Fin 0 → Fin S16x4096x2x64.rank)
  reducesTo_S16x4096x2x64_S_d0_1_2_3 : S16x4096x2x64.ReducesTo [0, 1, 2, 3] S_

variable [Facts]

def fn {F : FTy → Type} [FloatOps F] (main_arg0 : FVec F S16x4096x8x64 .f32) (main_arg1 : FVec F S16x4096x2x64 .f32) (main_arg2 : FVec F S16x4096x2x64 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x2x64 .f32 := Host.absf main_arg1
  let main_cst_0 : FVec F S_ .f32 := constant S_ .f32 0x7F800000#32
  let main_v5 : FVec F S16x4096x2x64 .f32 := broadcastInDim S16x4096x2x64 ![] bcast_S_S16x4096x2x64 main_cst_0
  let main_v6 : IVec S16x4096x2x64 1 := cmpf .olt main_v4 main_v5
  let main_c_1 : IVec S_ 1 := constantI S_ 1 1#1
  let main_v7 : IVec S_ 1 := (fun x v => Host.reduce IntOp.andi x v reducesTo_S16x4096x2x64_S_d0_1_2_3 h_S_) main_v6 main_c_1
  let main_v8 : IVec S_ 1 := andi main_v3 main_v7
  main_v8
-- ==== Kernel.lean ====
abbrev S16x4096x8x64 : Shape := ⟨4, ![16, 4096, 8, 64]⟩
abbrev S16x4096x2x64 : Shape := ⟨4, ![16, 4096, 2, 64]⟩
abbrev S_ : Shape := ⟨0, ![]⟩
abbrev S16x8x64x4096 : Shape := ⟨4, ![16, 8, 64, 4096]⟩
abbrev S16x4x64x4096 : Shape := ⟨4, ![16, 4, 64, 4096]⟩
abbrev S16x4x128x4096 : Shape := ⟨4, ![16, 4, 128, 4096]⟩
abbrev S16x8x128x4096 : Shape := ⟨4, ![16, 8, 128, 4096]⟩
abbrev S16x8x512x128 : Shape := ⟨4, ![16, 8, 512, 128]⟩
abbrev S16x8x512x2x64 : Shape := ⟨5, ![16, 8, 512, 2, 64]⟩
abbrev S16x8x2x64x512 : Shape := ⟨5, ![16, 8, 2, 64, 512]⟩
abbrev S16x8x2x1x512 : Shape := ⟨5, ![16, 8, 2, 1, 512]⟩
abbrev S16x8x2x15x512 : Shape := ⟨5, ![16, 8, 2, 15, 512]⟩
abbrev S16x8x2x80x512 : Shape := ⟨5, ![16, 8, 2, 80, 512]⟩
abbrev S16x8x160x512 : Shape := ⟨4, ![16, 8, 160, 512]⟩
abbrev S16x4096x512 : Shape := ⟨3, ![16, 4096, 512]⟩
abbrev S1x4x128x512 : Shape := ⟨4, ![1, 4, 128, 512]⟩
abbrev S1x8x512x128 : Shape := ⟨4, ![1, 8, 512, 128]⟩
abbrev S1x8x80x512 : Shape := ⟨4, ![1, 8, 80, 512]⟩
abbrev S1x512x256 : Shape := ⟨3, ![1, 512, 256]⟩
abbrev S2x4x512x512 : Shape := ⟨4, ![2, 4, 512, 512]⟩
abbrev S4x1x512 : Shape := ⟨3, ![4, 1, 512]⟩
abbrev S4x80x512 : Shape := ⟨3, ![4, 80, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S512x512 : Shape := ⟨2, ![512, 512]⟩
abbrev S1x1x512x512 : Shape := ⟨4, ![1, 1, 512, 512]⟩
abbrev S1x1x80x512 : Shape := ⟨4, ![1, 1, 80, 512]⟩
abbrev S80x512 : Shape := ⟨2, ![80, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S64x512 : Shape := ⟨2, ![64, 512]⟩
abbrev S512x64 : Shape := ⟨2, ![512, 64]⟩
abbrev S512x256 : Shape := ⟨2, ![512, 256]⟩

abbrev nBuf : Space → Nat
  | .hbm => 32
  | .vmem => 11
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x4096x8x64, .f32⟩
  | .hbm, ⟨10, _⟩ => ⟨S16x4096x8x64, .f32⟩
  | .hbm, ⟨11, _⟩ => ⟨S16x8x64x4096, .f32⟩
  | .hbm, ⟨12, _⟩ => ⟨S_, .f32⟩
  | .hbm, ⟨13, _⟩ => ⟨S16x4x64x4096, .f32⟩
  | .hbm, ⟨14, _⟩ => ⟨S16x4x64x4096, .f32⟩
  | .hbm, ⟨15, _⟩ => ⟨S16x4x128x4096, .f32⟩
  | .hbm, ⟨16, _⟩ => ⟨S16x4x64x4096, .f32⟩
  | .hbm, ⟨17, _⟩ => ⟨S16x4x128x4096, .f32⟩
  | .hbm, ⟨18, _⟩ => ⟨S16x8x128x4096, .f32⟩
  | .hbm, ⟨19, _⟩ => ⟨S16x8x128x4096, .bf16⟩
  | .hbm, ⟨20, _⟩ => ⟨S16x8x512x128, .f32⟩
  | .hbm, ⟨21, _⟩ => ⟨S16x8x512x128, .bf16⟩
  | .hbm, ⟨22, _⟩ => ⟨S16x8x512x2x64, .f32⟩
  | .hbm, ⟨23, _⟩ => ⟨S16x8x2x64x512, .f32⟩
  | .hbm, ⟨24, _⟩ => ⟨S_, .f32⟩
  | .hbm, ⟨25, _⟩ => ⟨S16x8x2x1x512, .f32⟩
  | .hbm, ⟨26, _⟩ => ⟨S_, .f32⟩
  | .hbm, ⟨27, _⟩ => ⟨S16x8x2x15x512, .f32⟩
  | .hbm, ⟨28, _⟩ => ⟨S16x8x2x80x512, .f32⟩
  | .hbm, ⟨29, _⟩ => ⟨S16x8x160x512, .f32⟩
  | .hbm, ⟨30, _⟩ => ⟨S16x8x160x512, .bf16⟩
  | .hbm, ⟨31, _⟩ => ⟨S16x4096x512, .bf16⟩
  | .local _ .vmem, ⟨0, _⟩ => ⟨S1x4x128x512, .bf16⟩
  | .local _ .vmem, ⟨1, _⟩ => ⟨S1x4x128x512, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x8x80x512, .bf16⟩
  | .local _ .vmem, ⟨5, _⟩ => ⟨S1x8x80x512, .bf16⟩
  | .local _ .vmem, ⟨6, _⟩ => ⟨S1x512x256, .bf16⟩
  | .local _ .vmem, ⟨7, _⟩ => ⟨S1x512x256, .bf16⟩
  | .local _ .vmem, ⟨8, _⟩ => ⟨S2x4x512x512, .f32⟩
  | .local _ .vmem, ⟨9, _⟩ => ⟨S4x1x512, .f32⟩
  | .local _ .vmem, ⟨10, _⟩ => ⟨S4x80x512, .f32⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

@[reducible] def k0_t1_loop : Scf.Loop 32 :=
  let c0_i32 : BitVec 32 := 0#32
  let c3_i32 : BitVec 32 := 3#32
  let v34 : BitVec 32 := Scalar.addi c0_i32 c3_i32
  let c1_i32 : BitVec 32 := 1#32
  ⟨c0_i32, v34, c1_i32⟩
def k0_off1 (k0_t1 : Fin k0_t1_loop.trips) (c1_i32_249 : BitVec 32) : Fin 4 → Nat :=
  let c0_250 : Index := 0#32
  let c2_i32 : BitVec 32 := 2#32
  let c0_i32 : BitVec 32 := 0#32
  let c1_i32 : BitVec 32 := 1#32
  let arg10 : BitVec 32 := Scf.iv c0_i32 c1_i32 k0_t1
  let v298 : BitVec 32 := Scalar.muli c2_i32 arg10
  let v299 : BitVec 32 := Scalar.addi v298 c1_i32_249
  let v300 : Index := Scalar.indexCast v299
  let c0_251 : Index := 0#32
  let c0_252 : Index := 0#32
  ![0, v300.toNat, 0, 0]
def k0_off2 (k0_t1 : Fin k0_t1_loop.trips) : Fin 4 → Nat :=
  let c0_253 : Index := 0#32
  let c2_i32 : BitVec 32 := 2#32
  let c0_i32 : BitVec 32 := 0#32
  let c1_i32 : BitVec 32 := 1#32
  let arg10 : BitVec 32 := Scf.iv c0_i32 c1_i32 k0_t1
  let v298 : BitVec 32 := Scalar.muli c2_i32 arg10
  let v303 : Index := Scalar.indexCast v298
  let c0_254 : Index := 0#32
  let c0_255 : Index := 0#32
  ![0, v303.toNat, 0, 0]
def k0_off3 (k0_t1 : Fin k0_t1_loop.trips) : Fin 4 → Nat :=
  let c0_369 : Index := 0#32
  let c2_i32 : BitVec 32 := 2#32
  let c0_i32 : BitVec 32 := 0#32
  let c1_i32 : BitVec 32 := 1#32
  let arg10 : BitVec 32 := Scf.iv c0_i32 c1_i32 k0_t1
  let v298 : BitVec 32 := Scalar.muli c2_i32 arg10
  let c1_i32_365 : BitVec 32 := 1#32
  let v431 : BitVec 32 := Scalar.addi v298 c1_i32_365
  let v435 : Index := Scalar.indexCast v431
  let c0_370 : Index := 0#32
  let c0_371 : Index := 0#32
  ![0, v435.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x4096x8x64 : Shape := ⟨4, ![16, 4096, 8, 64]⟩
abbrev S16x4096x2x64 : Shape := ⟨4, ![16, 4096, 2, 64]⟩
abbrev S16x4096x2x4x64 : Shape := ⟨5, ![16, 4096, 2, 4, 64]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩
abbrev S16x4096x512 : Shape := ⟨3, ![16, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S16x4096x2x4x64, .f32⟩
  | .hbm, ⟨4, _⟩ => ⟨S16x2x4096x4096x4, .f32⟩
  | .hbm, ⟨5, _⟩ => ⟨S16x2x4x4096x4096, .f32⟩
  | .hbm, ⟨6, _⟩ => ⟨S_, .f32⟩
  | .hbm, ⟨7, _⟩ => ⟨S16x2x4x4096x4096, .f32⟩
  | .hbm, ⟨8, _⟩ => ⟨S16x2x4x4096x4096, .f32⟩
  | .hbm, ⟨9, _⟩ => ⟨S_, .f32⟩
  | .hbm, ⟨10, _⟩ => ⟨S16x2x4x4096, .f32⟩
  | .hbm, ⟨11, _⟩ => ⟨S_, .f32⟩
  | .hbm, ⟨12, _⟩ => ⟨S16x2x4x4096, .f32⟩
  | .hbm, ⟨13, _⟩ => ⟨S16x2x4x4096, .f32⟩
  | .hbm, ⟨14, _⟩ => ⟨S16x2x4x4096x1, .f32⟩
  | .hbm, ⟨15, _⟩ => ⟨S16x2x4x4096x4096, .f32⟩
  | .hbm, ⟨16, _⟩ => ⟨S16x2x4x4096x4096, .f32⟩
  | .hbm, ⟨17, _⟩ => ⟨S16x2x4x4096x4096, .f32⟩
  | .hbm, ⟨18, _⟩ => ⟨S_, .f32⟩
  | .hbm, ⟨19, _⟩ => ⟨S16x2x4x4096, .f32⟩
  | .hbm, ⟨20, _⟩ => ⟨S16x2x4x4096x1, .f32⟩
  | .hbm, ⟨21, _⟩ => ⟨S16x2x4x4096x4096, .f32⟩
  | .hbm, ⟨22, _⟩ => ⟨S16x2x4x4096x4096, .f32⟩
  | .hbm, ⟨23, _⟩ => ⟨S16x2x64x4x4096, .f32⟩
  | .hbm, ⟨24, _⟩ => ⟨S16x4096x2x4x64, .f32⟩
  | .hbm, ⟨25, _⟩ => ⟨S16x4096x512, .f32⟩
  | .hbm, ⟨26, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x6144 : Shape := ⟨2, ![16, 6144]⟩
abbrev S4x1024x7424 : Shape := ⟨3, ![4, 1024, 7424]⟩
abbrev S16x6x1024 : Shape := ⟨3, ![16, 6, 1024]⟩
abbrev S16x4096x512 : Shape := ⟨3, ![16, 4096, 512]⟩
abbrev S16x4096x256 : Shape := ⟨3, ![16, 4096, 256]⟩
abbrev S16x4096x2560 : Shape := ⟨3, ![16, 4096, 2560]⟩
abbrev S16x4096x3072 : Shape := ⟨3, ![16, 4096, 3072]⟩
abbrev S1x512x1024 : Shape := ⟨3, ![1, 512, 1024]⟩
abbrev S1x6x1024 : Shape := ⟨3, ![1, 6, 1024]⟩
abbrev S1x1024x7424 : Shape := ⟨3, ![1, 1024, 7424]⟩
abbrev S1x512x512 : Shape := ⟨3, ![1, 512, 512]⟩
abbrev S1x512x256 : Shape := ⟨3, ![1, 512, 256]⟩
abbrev S1x512x2560 : Shape := ⟨3, ![1, 512, 2560]⟩
abbrev S1x512x3072 : Shape := ⟨3, ![1, 512, 3072]⟩
abbrev S6x1024 : Shape := ⟨2, ![6, 1024]⟩
abbrev S512x1024 : Shape := ⟨2, ![512, 1024]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 10
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024x7424, .f32⟩
  | .hbm, ⟨3, _⟩ => ⟨S16x6x1024, .f32⟩
  | .hbm, ⟨4, _⟩ => ⟨S4x1024x7424, .bf16⟩
  | .hbm, ⟨5, _⟩ => ⟨S16x4096x512, .bf16⟩
  | .hbm, ⟨6, _⟩ => ⟨S16x4096x256, .bf16⟩
  | .hbm, ⟨7, _⟩ => ⟨S16x4096x1024, .bf16⟩
  | .hbm, ⟨8, _⟩ => ⟨S16x4096x2560, .bf16⟩
  | .hbm, ⟨9, _⟩ => ⟨S16x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x7424, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x2560, .bf16⟩
  | .local _ .vmem, ⟨12, _⟩ => ⟨S1x512x2560, .bf16⟩
  | .local _ .vmem, ⟨13, _⟩ => ⟨S1x512x3072, .bf16⟩
  | .local _ .vmem, ⟨14, _⟩ => ⟨S1x512x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x4096x1024 : Shape := ⟨3, ![16, 4096, 1024]⟩
abbrev S16x6144 : Shape := ⟨2, ![16, 6144]⟩
abbrev S4x1024x7424 : Shape := ⟨3, ![4, 1024, 7424]⟩
abbrev S16x1x6144 : Shape := ⟨3, ![16, 1, 6144]⟩
abbrev S16x1x1024 : Shape := ⟨3, ![16, 1, 1024]⟩
abbrev S_ : Shape := ⟨0, ![]⟩
abbrev S1x1024x7424 : Shape := ⟨3, ![1, 1024, 7424]⟩
abbrev S1024x7424 : Shape := ⟨2, ![1024, 7424]⟩
abbrev S16x4096x7424 : Shape := ⟨3, ![16, 4096, 7424]⟩
abbrev S16x4096x512 : Shape := ⟨3, ![16, 4096, 512]⟩
abbrev S16x4096x128 : Shape := ⟨3, ![16, 4096, 128]⟩
abbrev S16x4096x3072 : Shape := ⟨3, ![16, 4096, 3072]⟩
abbrev S16x4096x256 : Shape := ⟨3, ![16, 4096, 256]⟩
abbrev S16x4096x2560 : Shape := ⟨3, ![16, 4096, 2560]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024x7424, .f32⟩
  | .hbm, ⟨3, _⟩ => ⟨S16x1x6144, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S_, .f32⟩
  | .hbm, ⟨11, _⟩ => ⟨S16x1x1024, .f32⟩
  | .hbm, ⟨12, _⟩ => ⟨S16x1x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S1x1024x7424, .f32⟩
  | .hbm, ⟨18, _⟩ => ⟨S1024x7424, .f32⟩
  | .hbm, ⟨19, _⟩ => ⟨S16x4096x7424, .f32⟩
  | .hbm, ⟨20, _⟩ => ⟨S16x4096x512, .f32⟩
  | .hbm, ⟨21, _⟩ => ⟨S16x4096x128, .f32⟩
  | .hbm, ⟨22, _⟩ => ⟨S16x4096x128, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x3072, .f32⟩
  | .hbm, ⟨31, _⟩ => ⟨S16x4096x512, .bf16⟩
  | .hbm, ⟨32, _⟩ => ⟨S16x4096x256, .f32⟩
  | .hbm, ⟨33, _⟩ => ⟨S16x4096x256, .bf16⟩
  | .hbm, ⟨34, _⟩ => ⟨S16x4096x512, .f32⟩
  | .hbm, ⟨35, _⟩ => ⟨S16x4096x512, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S_, .f32⟩
  | .hbm, ⟨41, _⟩ => ⟨S16x4096x512, .f32⟩
  | .hbm, ⟨42, _⟩ => ⟨S16x4096x512, .f32⟩
  | .hbm, ⟨43, _⟩ => ⟨S16x4096x512, .f32⟩
  | .hbm, ⟨44, _⟩ => ⟨S_, .f32⟩
  | .hbm, ⟨45, _⟩ => ⟨S16x4096x512, .f32⟩
  | .hbm, ⟨46, _⟩ => ⟨S16x4096x512, .f32⟩
  | .hbm, ⟨47, _⟩ => ⟨S_, .f32⟩
  | .hbm, ⟨48, _⟩ => ⟨S16x4096x512, .f32⟩
  | .hbm, ⟨49, _⟩ => ⟨S16x4096x512, .f32⟩
  | .hbm, ⟨50, _⟩ => ⟨S16x4096x512, .f32⟩
  | .hbm, ⟨51, _⟩ => ⟨S16x4096x1024, .f32⟩
  | .hbm, ⟨52, _⟩ => ⟨S16x4096x1024, .bf16⟩
  | .hbm, ⟨53, _⟩ => ⟨S16x4096x512, .f32⟩
  | .hbm, ⟨54, _⟩ => ⟨S16x4096x512, .f32⟩
  | .hbm, ⟨55, _⟩ => ⟨S_, .f32⟩
  | .hbm, ⟨56, _⟩ => ⟨S16x4096x512, .f32⟩
  | .hbm, ⟨57, _⟩ => ⟨S16x4096x512, .f32⟩
  | .hbm, ⟨58, _⟩ => ⟨S_, .f32⟩
  | .hbm, ⟨59, _⟩ => ⟨S16x4096x512, .f32⟩
  | .hbm, ⟨60, _⟩ => ⟨S16x4096x512, .f32⟩
  | .hbm, ⟨61, _⟩ => ⟨S16x4096x512, .f32⟩
  | .hbm, ⟨62, _⟩ => ⟨S16x4096x512, .f32⟩
  | .hbm, ⟨63, _⟩ => ⟨S16x4096x512, .f32⟩
  | .hbm, ⟨64, _⟩ => ⟨S_, .f32⟩
  | .hbm, ⟨65, _⟩ => ⟨S16x4096x512, .f32⟩
  | .hbm, ⟨66, _⟩ => ⟨S16x4096x512, .f32⟩
  | .hbm, ⟨67, _⟩ => ⟨S_, .f32⟩
  | .hbm, ⟨68, _⟩ => ⟨S16x4096x512, .f32⟩
  | .hbm, ⟨69, _⟩ => ⟨S16x4096x512, .f32⟩
  | .hbm, ⟨70, _⟩ => ⟨S16x4096x512, .f32⟩
  | .hbm, ⟨71, _⟩ => ⟨S16x4096x2560, .f32⟩
  | .hbm, ⟨72, _⟩ => ⟨S16x4096x2560, .bf16⟩
  | .hbm, ⟨73, _⟩ => ⟨S16x4096x3072, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v45 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Kernel3.lean ====
abbrev S16x4096x512 : Shape := ⟨3, ![16, 4096, 512]⟩
abbrev S16x4096x3072 : Shape := ⟨3, ![16, 4096, 3072]⟩
abbrev S16x4096x1024 : Shape := ⟨3, ![16, 4096, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1024x256 : Shape := ⟨2, ![1024, 256]⟩
abbrev S16x6x1024 : Shape := ⟨3, ![16, 6, 1024]⟩
abbrev S1x1024 : Shape := ⟨2, ![1, 1024]⟩
abbrev S16x4096x128 : Shape := ⟨3, ![16, 4096, 128]⟩
abbrev S1x512x512 : Shape := ⟨3, ![1, 512, 512]⟩
abbrev S1x512x1024 : Shape := ⟨3, ![1, 512, 1024]⟩
abbrev S1x6x1024 : Shape := ⟨3, ![1, 6, 1024]⟩
abbrev S1x512x128 : Shape := ⟨3, ![1, 512, 128]⟩
abbrev S6x1024 : Shape := ⟨2, ![6, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 35
  | .vmem => 29
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x3072, .bf16⟩
  | .hbm, ⟨4, _⟩ => ⟨S16x4096x1024, .f32⟩
  | .hbm, ⟨5, _⟩ => ⟨S16x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x4, .f32⟩
  | .hbm, ⟨13, _⟩ => ⟨S4x1024x8, .f32⟩
  | .hbm, ⟨14, _⟩ => ⟨S1024x4x8, .f32⟩
  | .hbm, ⟨15, _⟩ => ⟨S1024x32, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1024x256, .bf16⟩
  | .hbm, ⟨25, _⟩ => ⟨S16x6x1024, .f32⟩
  | .hbm, ⟨26, _⟩ => ⟨S512x1024, .bf16⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S16x4096x1024, .f32⟩
  | .hbm, ⟨33, _⟩ => ⟨S16x4096x1024, .f32⟩
  | .hbm, ⟨34, _⟩ => ⟨S16x4096x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x6x1024, .f32⟩
  | .local _ .vmem, ⟨15, _⟩ => ⟨S1x6x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x256, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x128, .f32⟩
  | .local _ .vmem, ⟨28, _⟩ => ⟨S1x512x128, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S16x4096x512 : Shape := ⟨3, ![16, 4096, 512]⟩
abbrev S16x4096x3072 : Shape := ⟨3, ![16, 4096, 3072]⟩
abbrev S16x4096x1024 : Shape := ⟨3, ![16, 4096, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4x1024x8 : Shape := ⟨3, ![4, 1024, 8]⟩
abbrev S16x1x6144 : Shape := ⟨3, ![16, 1, 6144]⟩
abbrev S16x1x1024 : Shape := ⟨3, ![16, 1, 1024]⟩
abbrev S16x4096x3x1024 : Shape := ⟨4, ![16, 4096, 3, 1024]⟩
abbrev S_ : Shape := ⟨0, ![]⟩
abbrev S16x4096x1x1024 : Shape := ⟨4, ![16, 4096, 1, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x512, .bf16⟩
  | .hbm, ⟨3, _⟩ => ⟨S16x4096x3072, .bf16⟩
  | .hbm, ⟨4, _⟩ => ⟨S16x4096x1024, .f32⟩
  | .hbm, ⟨5, _⟩ => ⟨S16x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x4, .f32⟩
  | .hbm, ⟨13, _⟩ => ⟨S4x1024x8, .f32⟩
  | .hbm, ⟨14, _⟩ => ⟨S16x1x6144, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x4096x3072, .f32⟩
  | .hbm, ⟨22, _⟩ => ⟨S16x4096x3x1024, .f32⟩
  | .hbm, ⟨23, _⟩ => ⟨S16x4096x3x1024, .f32⟩
  | .hbm, ⟨24, _⟩ => ⟨S16x4096x3x1024, .f32⟩
  | .hbm, ⟨25, _⟩ => ⟨S_, .f32⟩
  | .hbm, ⟨26, _⟩ => ⟨S16x4096x3x1024, .f32⟩
  | .hbm, ⟨27, _⟩ => ⟨S16x4096x3x1024, .f32⟩
  | .hbm, ⟨28, _⟩ => ⟨S_, .f32⟩
  | .hbm, ⟨29, _⟩ => ⟨S16x4096x3x1024, .f32⟩
  | .hbm, ⟨30, _⟩ => ⟨S16x4096x3x1024, .f32⟩
  | .hbm, ⟨31, _⟩ => ⟨S16x4096x1x1024, .f32⟩
  | .hbm, ⟨32, _⟩ => ⟨S16x4096x1024, .f32⟩
  | .hbm, ⟨33, _⟩ => ⟨S16x4096x512, .f32⟩
  | .hbm, ⟨34, _⟩ => ⟨S16x4096x1024, .f32⟩
  | .hbm, ⟨35, _⟩ => ⟨S16x4096x1024, .f32⟩
  | .hbm, ⟨36, _⟩ => ⟨S16x4096x1x1024, .f32⟩
  | .hbm, ⟨37, _⟩ => ⟨S16x4096x1024, .f32⟩
  | .hbm, ⟨38, _⟩ => ⟨S16x4096x512, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1x1024, .f32⟩
  | .hbm, ⟨43, _⟩ => ⟨S16x4096x1024, .f32⟩
  | .hbm, ⟨44, _⟩ => ⟨S16x4096x512, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S_, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x1x1024, .f32⟩
  | .hbm, ⟨53, _⟩ => ⟨S16x1x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S_, .f32⟩
  | .hbm, ⟨71, _⟩ => ⟨S16x4096x1, .f32⟩
  | .hbm, ⟨72, _⟩ => ⟨S16x4096x1, .f32⟩
  | .hbm, ⟨73, _⟩ => ⟨S16x4096x1024, .f32⟩
  | .hbm, ⟨74, _⟩ => ⟨S16x4096x1024, .f32⟩
  | .hbm, ⟨75, _⟩ => ⟨S_, .f32⟩
  | .hbm, ⟨76, _⟩ => ⟨S16x4096x1, .f32⟩
  | .hbm, ⟨77, _⟩ => ⟨S16x4096x1, .f32⟩
  | .hbm, ⟨78, _⟩ => ⟨S16x4096x1, .f32⟩
  | .hbm, ⟨79, _⟩ => ⟨S16x4096x1024, .f32⟩
  | .hbm, ⟨80, _⟩ => ⟨S16x4096x1024, .f32⟩
  | .hbm, ⟨81, _⟩ => ⟨S1x1x1024, .f32⟩
  | .hbm, ⟨82, _⟩ => ⟨S16x4096x1024, .f32⟩
  | .hbm, ⟨83, _⟩ => ⟨S16x4096x1024, .f32⟩
  | .hbm, ⟨84, _⟩ => ⟨S1x1x1024, .f32⟩
  | .hbm, ⟨85, _⟩ => ⟨S16x4096x1024, .f32⟩
  | .hbm, ⟨86, _⟩ => ⟨S16x4096x1024, .f32⟩
  | .hbm, ⟨87, _⟩ => ⟨S_, .f32⟩
  | .hbm, ⟨88, _⟩ => ⟨S16x1x1024, .f32⟩
  | .hbm, ⟨89, _⟩ => ⟨S16x1x1024, .f32⟩
  | .hbm, ⟨90, _⟩ => ⟨S16x4096x1024, .f32⟩
  | .hbm, ⟨91, _⟩ => ⟨S16x4096x1024, .f32⟩
  | .hbm, ⟨92, _⟩ => ⟨S16x4096x1024, .f32⟩
  | .hbm, ⟨93, _⟩ => ⟨S16x4096x1024, .f32⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

set_option maxRecDepth 16384

noncomputable section

/-! One head's update from one chunk of keys, and that every stored value of the body is one. -/

namespace Cert.KernelIdeal.Att

open Cert.KernelIdeal Cert.KernelIdeal.Gen
open Idealize.ShloMosaic Idealize.ShloMosaic.TcCoe Idealize.ShloMosaic.Tactic
open Idealize.SL Idealize.SL.Sem

variable {F : FTy → Type} [FloatOps F]

/-! ## One head's update -/

/-- The new running maximum of a column from a chunk's scores and the old one. -/
def mUp (st : Vec F S1x1x512x512 .f32) (mx : Vec F S1x1x512 .f32) : Vec F S1x1x512 .f32 := k0_pay70 st mx
/-- The new running weighted sums: the old ones rescaled, plus the chunk's values times its weights. -/
def aUp (vt : Vec F S1x1x80x512 .bf16) (st : Vec F S1x1x512x512 .f32) (mx : Vec F S1x1x512 .f32)
    (ac : Vec F S1x80x512 .f32) : Vec F S1x80x512 .f32 := k0_pay69 (k0_pay39 vt) st mx ac
/-- A chunk's scores: its keys times the queries. -/
def scoresOf (kc : Vec F S1x1x512x128 .bf16) (q : Vec F S1x1x128x512 .bf16) : Vec F S1x1x512x512 .f32 := k0_pay4 kc q

/-! ## The stored values, head by head -/

section Payloads

variable (kc : Vec F S1x1x512x128 .bf16) (q : Vec F S1x1x128x512 .bf16) (vt : Vec F S1x1x80x512 .bf16)
  (st : Vec F S1x1x512x512 .f32) (mx : Vec F S1x1x512 .f32) (ac : Vec F S1x80x512 .f32)

theorem score_0 : k0_pay4 kc q = scoresOf kc q := rfl
theorem score_1 : k0_pay13 (k0_pay2 kc) q = scoresOf kc q := rfl
theorem score_2 : k0_pay22 (k0_pay2 kc) q = scoresOf kc q := rfl
theorem score_3 : k0_pay30 (k0_pay2 kc) q = scoresOf kc q := rfl
theorem score_4 : k0_pay40 kc q = scoresOf kc q := rfl
theorem score_5 : k0_pay46 (k0_pay38 kc) q = scoresOf kc q := rfl
theorem score_6 : k0_pay52 (k0_pay38 kc) q = scoresOf kc q := rfl
theorem score_7 : k0_pay58 (k0_pay38 kc) q = scoresOf kc q := rfl
theorem score_8 : k0_pay62 kc q = scoresOf kc q := rfl
theorem score_9 : k0_pay63 kc q = scoresOf kc q := rfl
theorem score_10 : k0_pay64 (k0_pay61 kc) q = scoresOf kc q := rfl
theorem score_11 : k0_pay65 (k0_pay61 kc) q = scoresOf kc q := rfl
theorem score_12 : k0_pay74 (k0_pay73 kc q) = scoresOf kc q := rfl
theorem score_13 : k0_pay81 (k0_pay80 (k0_pay71 kc) q) = scoresOf kc q := rfl
theorem score_14 : k0_pay88 (k0_pay87 (k0_pay71 kc) q) = scoresOf kc q := rfl
theorem score_15 : k0_pay95 (k0_pay94 (k0_pay71 kc) q) = scoresOf kc q := rfl

theorem max_0 : k0_pay12 (k0_pay7 st mx) = mUp st mx := rfl
theorem max_1 : k0_pay21 (k0_pay16 st mx) = mUp st mx := rfl
theorem max_2 : k0_pay29 (k0_pay25 st mx) = mUp st mx := rfl
theorem max_3 : k0_pay37 (k0_pay33 st mx) = mUp st mx := rfl
theorem max_4 : k0_pay45 (k0_pay41 st) mx = mUp st mx := rfl
theorem max_5 : k0_pay51 (k0_pay47 st) mx = mUp st mx := rfl
theorem max_6 : k0_pay57 st mx = mUp st mx := rfl
theorem max_7 : k0_pay70 st mx = mUp st mx := rfl
theorem max_8 : k0_pay79 st mx = mUp st mx := rfl
theorem max_9 : k0_pay86 st mx = mUp st mx := rfl
theorem max_10 : k0_pay93 st mx = mUp st mx := rfl
theorem max_11 : k0_pay100 st mx = mUp st mx := rfl
theorem max_12 : k0_pay106 st mx = mUp st mx := rfl
theorem max_13 : k0_pay112 (k0_pay109 st mx) = mUp st mx := rfl
theorem max_14 : k0_pay118 (k0_pay115 st mx) = mUp st mx := rfl
theorem max_15 : k0_pay123 st mx = mUp st mx := rfl

theorem acc_0 : k0_pay11 (k0_pay3 vt) (k0_pay8 st mx) (k0_pay9 ac) (k0_pay10 st mx) = aUp vt st mx ac := rfl
theorem acc_1 : k0_pay20 (k0_pay3 vt) (k0_pay17 st mx) (k0_pay18 st mx) (k0_pay19 ac) = aUp vt st mx ac := rfl
theorem acc_2 : k0_pay28 (k0_pay3 vt) (k0_pay26 st mx) (k0_pay27 st mx) ac = aUp vt st mx ac := rfl
theorem acc_3 : k0_pay36 (k0_pay3 vt) (k0_pay34 st mx) (k0_pay35 st mx) ac = aUp vt st mx ac := rfl
theorem acc_4 : k0_pay44 (k0_pay39 vt) (k0_pay41 st) mx ac = aUp vt st mx ac := rfl
theorem acc_5 : k0_pay50 (k0_pay39 vt) (k0_pay47 st) mx ac = aUp vt st mx ac := rfl
theorem acc_6 : k0_pay56 (k0_pay39 vt) st mx ac = aUp vt st mx ac := rfl
theorem acc_7 : k0_pay69 (k0_pay39 vt) st mx ac = aUp vt st mx ac := rfl
theorem acc_8 : k0_pay78 (k0_pay72 vt) st mx ac = aUp vt st mx ac := rfl
theorem acc_9 : k0_pay85 (k0_pay72 vt) st mx ac = aUp vt st mx ac := rfl
theorem acc_10 : k0_pay92 (k0_pay72 vt) st mx ac = aUp vt st mx ac := rfl
theorem acc_11 : k0_pay99 (k0_pay72 vt) st mx ac = aUp vt st mx ac := rfl
theorem acc_12 : k0_pay105 (k0_pay101 vt) st mx ac = aUp vt st mx ac := rfl
theorem acc_13 : k0_pay111 (k0_pay101 vt) (k0_pay107 st) (k0_pay108 mx) (k0_pay109 st mx) (k0_pay110 st mx) ac = aUp vt st mx ac := rfl
theorem acc_14 : k0_pay117 (k0_pay116 (k0_pay101 vt) st mx ac) = aUp vt st mx ac := rfl
theorem acc_15 : k0_pay122 (k0_pay101 vt) st mx ac = aUp vt st mx ac := rfl

end Payloads

end Cert.KernelIdeal.Att

end
-- ==== Proof.Trip.lean ====
module

public import proofs.«01_k».proof.Proof.Gen.KernelIdeal.Loops
public import proofs.«01_k».proof.Proof.Steps
public import Idealize.ShloMosaic.Lib.WritesUnit
public import Idealize.ShloMosaic.Lib.Pipeline.Value

@[expose] public section

set_option maxRecDepth 16384

noncomputable section

/-! What one trip of the attention loop does to each head's slices of the three scratch buffers. -/

namespace Cert.KernelIdeal.Att

open Cert.KernelIdeal Cert.KernelIdeal.Gen
open Idealize.ShloMosaic Idealize.ShloMosaic.TcCoe Idealize.ShloMosaic.Tactic
open Idealize.SL Idealize.SL.Sem

/-! ## Reading one slice back from a list of slice stores -/

section Reads

variable {sig' : RefSig} {κ : Kind} {sp : Space} {s : Shape} {e : EltTy} {Val : EltTy → Type}

/-- A load through the rectangle of the newest store reads what was stored. -/
theorem readAt_hit (v : View sig' κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load through a box that some axis keeps apart from the newest store reads the older stores. -/
theorem readAt_miss (v : View sig' κ sp s e) (f : v.ty.Contents Val) {o o' z z' : Fin s.rank → ℕ}
    (hb : ∀ a, o a + z a ≤ s.size a) (hb' : ∀ a, o' a + z' a ≤ s.size a)
    (w : (Rect.unit o z hb).shape.Idx → Val e) (L : List (View.Piece Val s e))
    (h : ∃ a, o' a + z' a ≤ o a ∨ o a + z a ≤ o' a) :
    v.readAt Val (Rect.unit o' z' hb').toLoadRect (v.writes Val f (⟨Rect.unit o z hb, w⟩ :: L))
      = v.readAt Val (Rect.unit o' z' hb').toLoadRect (v.writes Val f L) := by
  obtain ⟨a, ha⟩ := h
  funext x
  refine View.read_writes_cons_unit_of_not_mem v f hb w L ((Rect.unit o' z' hb').idx x) rfl a ?_
  have h1 : ((Rect.unit o' z' hb').idx x a).val = o' a + 1 * (x a).val := rfl
  have h2 : (x a).val < z' a := (x a).isLt
  omega

/-- The same two facts for a load of stores over contents that do not matter. -/
theorem readCov_hit [∀ e, Nonempty (Val e)] (v : View sig' κ sp s e) (r : Rect s) (w : r.shape.Idx → Val e)
    (L : List (View.Piece Val s e)) : v.readCov (⟨r, w⟩ :: L) r.toLoadRect = w := readAt_hit v _ r w L

theorem readCov_miss [∀ e, Nonempty (Val e)] (v : View sig' κ sp s e) {o o' z z' : Fin s.rank → ℕ}
    (hb : ∀ a, o a + z a ≤ s.size a) (hb' : ∀ a, o' a + z' a ≤ s.size a)
    (w : (Rect.unit o z hb).shape.Idx → Val e) (L : List (View.Piece Val s e))
    (h : ∃ a, o' a + z' a ≤ o a ∨ o a + z a ≤ o' a) :
    v.readCov (⟨Rect.unit o z hb, w⟩ :: L) (Rect.unit o' z' hb').toLoadRect
      = v.readCov L (Rect.unit o' z' hb').toLoadRect := readAt_miss v _ hb hb' w L h

end Reads

variable {F : FTy → Type} [FloatOps F]

/-- The rectangles of head `h`: its scores in slot `p`, its running maximum, its running sums, its queries. -/
abbrev r7 (p : Fin 2) (h : Fin 4) : Rect S2x4x512x512 :=
  Rect.unit (s := S2x4x512x512) ![p.val, h.val, 0, 0] S1x1x512x512.size (by revert p h; decide)
abbrev r8 (h : Fin 4) : Rect S4x1x512 := Rect.unit (s := S4x1x512) ![h.val, 0, 0] S1x1x512.size (by revert h; decide)
abbrev r9 (h : Fin 4) : Rect S4x80x512 := Rect.unit (s := S4x80x512) ![h.val, 0, 0] S1x80x512.size (by revert h; decide)
abbrev r3 (h : Fin 4) : Rect S1x4x128x512 :=
  Rect.unit (s := S1x4x128x512) ![0, h.val, 0, 0] S1x1x128x512.size (by revert h; decide)
/-- The rectangles of key chunk and value chunk `j`. -/
abbrev r4 (j : Fin 8) : Rect S1x8x512x128 :=
  Rect.unit (s := S1x8x512x128) ![0, j.val, 0, 0] S1x1x512x128.size (by revert j; decide)
abbrev r5 (j : Fin 8) : Rect S1x8x80x512 :=
  Rect.unit (s := S1x8x80x512) ![0, j.val, 0, 0] S1x1x80x512.size (by revert j; decide)

variable (𝒱 : Variants) (c : Dev nD) (bd : Option 𝒱.V) (i : grid0.Coords) (arg3 : Memref sig .tc .vmem S1x4x128x512 .bf16) (harg3 : arg3.IsWhole) (arg4 : Memref sig .tc .vmem S1x8x512x128 .bf16) (harg4 : arg4.IsWhole) (arg5 : Memref sig .tc .vmem S1x8x80x512 .bf16) (harg5 : arg5.IsWhole) (arg6 : Memref sig .tc .vmem S1x512x256 .bf16) (harg6 : arg6.IsWhole) (arg7 : Memref sig .tc .vmem S2x4x512x512 .f32) (harg7 : arg7.IsWhole) (arg8 : Memref sig .tc .vmem S4x1x512 .f32) (harg8 : arg8.IsWhole) (arg9 : Memref sig .tc .vmem S4x80x512 .f32) (harg9 : arg9.IsWhole) (v9 : FVec F S512x128 .bf16) (X3 : BufTy.Contents (Elt F) arg3.view.ty) (X4 : BufTy.Contents (Elt F) arg4.view.ty) (X5 : BufTy.Contents (Elt F) arg5.view.ty)

/-- Key chunk `j` and value chunk `j`, as a load reads them; head `h`'s queries. -/
abbrev kAt (j : Fin 8) : Vec F S1x1x512x128 .bf16 := arg4.view.readAt (Elt F) (r4 j).toLoadRect X4
abbrev vAt (j : Fin 8) : Vec F S1x1x80x512 .bf16 := arg5.view.readAt (Elt F) (r5 j).toLoadRect X5
abbrev qAt (h : Fin 4) : Vec F S1x1x128x512 .bf16 := arg3.view.readAt (Elt F) (r3 h).toLoadRect X3

variable (k : Fin k0_t1_loop.trips) (f7 : BufTy.Contents (Elt F) arg7.view.ty) (f8 : BufTy.Contents (Elt F) arg8.view.ty)
  (f9 : BufTy.Contents (Elt F) arg9.view.ty)

theorem trips_le : k.val < 3 := Nat.lt_of_lt_of_le k.isLt k0_t1_abs.2.1

/-- The chunks a trip reads: keys `2k+1` and `2k+2`, values `2k` and `2k+1`. -/
abbrev j0 : Fin 8 := ⟨2 * k.val, by have := trips_le k; omega⟩
abbrev j1 : Fin 8 := ⟨2 * k.val + 1, by have := trips_le k; omega⟩
abbrev j2 : Fin 8 := ⟨2 * k.val + 2, by have := trips_le k; omega⟩

theorem kAt_one (h) : arg4.view.readAt (Elt F) (Rect.unit (s := S1x8x512x128) (k0_off1 k 1#32) ![1, 1, 512, 128] h).toLoadRect X4
    = kAt arg4 X4 (j1 k) := View.readAt_unit_congr _ (k0_off1_eq k 0) _ _ _
theorem kAt_two (h) : arg4.view.readAt (Elt F) (Rect.unit (s := S1x8x512x128) (k0_off1 k 2#32) ![1, 1, 512, 128] h).toLoadRect X4
    = kAt arg4 X4 (j2 k) := View.readAt_unit_congr _ (k0_off1_eq k 1) _ _ _
theorem vAt_zero (h) : arg5.view.readAt (Elt F) (Rect.unit (s := S1x8x80x512) (k0_off2 k) ![1, 1, 80, 512] h).toLoadRect X5
    = vAt arg5 X5 (j0 k) := View.readAt_unit_congr _ (k0_off2_eq k) _ _ _
theorem vAt_one (h) : arg5.view.readAt (Elt F) (Rect.unit (s := S1x8x80x512) (k0_off3 k) ![1, 1, 80, 512] h).toLoadRect X5
    = vAt arg5 X5 (j1 k) := View.readAt_unit_congr _ (k0_off3_eq k) _ _ _

theorem fin4_cases (h : Fin 4) : h = 0 ∨ h = 1 ∨ h = 2 ∨ h = 3 := by revert h; decide

set_option maxHeartbeats 4000000 in
/-- After a trip the even slot holds the scores of the next even chunk, whatever the buffer held. -/
theorem trip_scores (g7 : BufTy.Contents (Elt F) arg7.view.ty) (h : Fin 4) :
    arg7.view.readAt (Elt F) (r7 0 h).toLoadRect (arg7.view.writes (Elt F) g7
      ((trip_k0_t1 (F := F) 𝒱 c bd i arg3 harg3 arg4 harg4 arg5 harg5 arg6 harg6 arg7 harg7 arg8 harg8 arg9 harg9 v9 X3 X4 X5 k).1 f7 f8 f9))
    = scoresOf (kAt arg4 X4 (j2 k)) (qAt arg3 X3 h) := by
  unfold trip_k0_t1
  dsimp only
  sl_unfold_run_names
  rcases fin4_cases h with rfl | rfl | rfl | rfl
  all_goals
    repeat refine (readAt_miss _ _ _ _ _ _ (by decide)).trans ?_
    refine (readAt_hit _ _ _ _ _).trans ?_
    simp only [kAt_one, kAt_two, vAt_zero, vAt_one, score_0, score_1, score_2, score_3, score_4, score_5, score_6, score_7, score_8, score_9, score_10, score_11, score_12, score_13, score_14, score_15]
    rfl

set_option maxHeartbeats 4000000 in
/-- After a trip a head's running maximum has taken in the two chunks. -/
theorem trip_max (h : Fin 4) :
    arg8.view.readAt (Elt F) (r8 h).toLoadRect (arg8.view.writes (Elt F) f8
      ((trip_k0_t1 (F := F) 𝒱 c bd i arg3 harg3 arg4 harg4 arg5 harg5 arg6 harg6 arg7 harg7 arg8 harg8 arg9 harg9 v9 X3 X4 X5 k).2.1 f7 f8 f9))
    = mUp (scoresOf (kAt arg4 X4 (j1 k)) (qAt arg3 X3 h))
        (mUp (arg7.view.readAt (Elt F) (r7 0 h).toLoadRect f7) (arg8.view.readAt (Elt F) (r8 h).toLoadRect f8)) := by
  unfold trip_k0_t1
  dsimp only
  sl_unfold_run_names
  rcases fin4_cases h with rfl | rfl | rfl | rfl
  all_goals
    repeat refine (readAt_miss _ _ _ _ _ _ (by decide)).trans ?_
    refine (readAt_hit _ _ _ _ _).trans ?_
    simp (disch := decide) only [↓readCov_hit, ↓readCov_miss]
    simp only [kAt_one, kAt_two, vAt_zero, vAt_one, score_0, score_1, score_2, score_3, score_4, score_5, score_6, score_7, score_8, score_9, score_10, score_11, score_12, score_13, score_14, score_15, max_0, max_1, max_2, max_3, max_4, max_5, max_6, max_7, max_8, max_9, max_10, max_11, max_12, max_13, max_14, max_15]
    rfl

set_option maxHeartbeats 4000000 in
/-- After a trip a head's running sums have taken in the two chunks. -/
theorem trip_acc (h : Fin 4) :
    arg9.view.readAt (Elt F) (r9 h).toLoadRect (arg9.view.writes (Elt F) f9
      ((trip_k0_t1 (F := F) 𝒱 c bd i arg3 harg3 arg4 harg4 arg5 harg5 arg6 harg6 arg7 harg7 arg8 harg8 arg9 harg9 v9 X3 X4 X5 k).2.2.1 f7 f8 f9))
    = aUp (vAt arg5 X5 (j1 k)) (scoresOf (kAt arg4 X4 (j1 k)) (qAt arg3 X3 h))
        (mUp (arg7.view.readAt (Elt F) (r7 0 h).toLoadRect f7) (arg8.view.readAt (Elt F) (r8 h).toLoadRect f8))
        (aUp (vAt arg5 X5 (j0 k)) (arg7.view.readAt (Elt F) (r7 0 h).toLoadRect f7)
          (arg8.view.readAt (Elt F) (r8 h).toLoadRect f8) (arg9.view.readAt (Elt F) (r9 h).toLoadRect f9)) := by
  unfold trip_k0_t1
  dsimp only
  sl_unfold_run_names
  rcases fin4_cases h with rfl | rfl | rfl | rfl
  all_goals
    repeat refine (readAt_miss _ _ _ _ _ _ (by decide)).trans ?_
    refine (readAt_hit _ _ _ _ _).trans ?_
    simp (disch := decide) only [↓readCov_hit, ↓readCov_miss]
    simp only [kAt_one, kAt_two, vAt_zero, vAt_one, score_0, score_1, score_2, score_3, score_4, score_5, score_6, score_7, score_8, score_9, score_10, score_11, score_12, score_13, score_14, score_15, max_0, max_1, max_2, max_3, max_4, max_5, max_6, max_7, max_8, max_9, max_10, max_11, max_12, max_13, max_14, max_15, acc_0, acc_1, acc_2, acc_3, acc_4, acc_5, acc_6, acc_7, acc_8, acc_9, acc_10, acc_11, acc_12, acc_13, acc_14, acc_15]
    rfl

end Cert.KernelIdeal.Att

end
-- ==== Proof.Loop.lean ====
module

public import proofs.«01_k».proof.Proof.Trip

@[expose] public section

set_option maxRecDepth 16384

noncomputable section

/-! The running maximum and running sums of one head over the chunks, and that the loop computes them. -/

namespace Cert.KernelIdeal.Att

open Cert.KernelIdeal Cert.KernelIdeal.Gen
open Idealize.ShloMosaic Idealize.ShloMosaic.TcCoe Idealize.ShloMosaic.Tactic
open Idealize.SL Idealize.SL.Sem

variable {F : FTy → Type} [FloatOps F]

/-- What the body first puts in the maxima (minus infinity) and in the sums (zero), one head's slice. -/
abbrev mZero : Vec F S1x1x512 .f32 := fun _ => Scalar.ofBits .f32 0xFF800000#32
abbrev aZero : Vec F S1x80x512 .f32 := fun _ => Scalar.ofBits .f32 0x00000000#32

section Iterate

variable (K : Fin 8 → Vec F S1x1x512x128 .bf16) (V : Fin 8 → Vec F S1x1x80x512 .bf16) (q : Vec F S1x1x128x512 .bf16)

/-- The scores of chunk `n`; the running maximum and the running sums once `n` chunks are taken in. -/
abbrev scAt (n : ℕ) : Vec F S1x1x512x512 .f32 := scoresOf (K (Fin.ofNat 8 n)) q
def mAt : ℕ → Vec F S1x1x512 .f32
  | 0 => mZero
  | n + 1 => mUp (scAt K q n) (mAt n)
def aAt : ℕ → Vec F S1x80x512 .f32
  | 0 => aZero
  | n + 1 => aUp (V (Fin.ofNat 8 n)) (scAt K q n) (mAt K q n) (aAt n)

end Iterate

variable (𝒱 : Variants) (c : Dev nD) (bd : Option 𝒱.V) (i : grid0.Coords) (arg3 : Memref sig .tc .vmem S1x4x128x512 .bf16) (harg3 : arg3.IsWhole) (arg4 : Memref sig .tc .vmem S1x8x512x128 .bf16) (harg4 : arg4.IsWhole) (arg5 : Memref sig .tc .vmem S1x8x80x512 .bf16) (harg5 : arg5.IsWhole) (arg6 : Memref sig .tc .vmem S1x512x256 .bf16) (harg6 : arg6.IsWhole) (arg7 : Memref sig .tc .vmem S2x4x512x512 .f32) (harg7 : arg7.IsWhole) (arg8 : Memref sig .tc .vmem S4x1x512 .f32) (harg8 : arg8.IsWhole) (arg9 : Memref sig .tc .vmem S4x80x512 .f32) (harg9 : arg9.IsWhole) (v9 : FVec F S512x128 .bf16) (X3 : BufTy.Contents (Elt F) arg3.view.ty) (X4 : BufTy.Contents (Elt F) arg4.view.ty) (X5 : BufTy.Contents (Elt F) arg5.view.ty)
variable (G7 : BufTy.Contents (Elt F) arg7.view.ty) (G8 : BufTy.Contents (Elt F) arg8.view.ty)
  (G9 : BufTy.Contents (Elt F) arg9.view.ty)

/-- The three scratch buffers as they stand after `n` trips. -/
abbrev after7 (n : ℕ) := arg7.view.writes (Elt F) G7 (pb_k0_t1 (F := F) 𝒱 c bd i arg3 harg3 arg4 harg4 arg5 harg5 arg6 harg6 arg7 harg7 arg8 harg8 arg9 harg9 v9 X3 X4 X5 G7 G8 G9 n).1
abbrev after8 (n : ℕ) := arg8.view.writes (Elt F) G8 (pb_k0_t1 (F := F) 𝒱 c bd i arg3 harg3 arg4 harg4 arg5 harg5 arg6 harg6 arg7 harg7 arg8 harg8 arg9 harg9 v9 X3 X4 X5 G7 G8 G9 n).2.1
abbrev after9 (n : ℕ) := arg9.view.writes (Elt F) G9 (pb_k0_t1 (F := F) 𝒱 c bd i arg3 harg3 arg4 harg4 arg5 harg5 arg6 harg6 arg7 harg7 arg8 harg8 arg9 harg9 v9 X3 X4 X5 G7 G8 G9 n).2.2

set_option maxHeartbeats 1000000 in
/-- Once `n` trips are done a head holds chunk `2n`'s scores and has taken in the `2n` chunks before it. -/
theorem loop_state (h : Fin 4)
    (h7 : arg7.view.readAt (Elt F) (r7 0 h).toLoadRect G7 = scAt (kAt arg4 X4) (qAt arg3 X3 h) 0)
    (h8 : arg8.view.readAt (Elt F) (r8 h).toLoadRect G8 = mZero)
    (h9 : arg9.view.readAt (Elt F) (r9 h).toLoadRect G9 = aZero) (n : ℕ) (hn : n ≤ k0_t1_loop.trips) :
    arg7.view.readAt (Elt F) (r7 0 h).toLoadRect (after7 𝒱 c bd i arg3 harg3 arg4 harg4 arg5 harg5 arg6 harg6 arg7 harg7 arg8 harg8 arg9 harg9 v9 X3 X4 X5 G7 G8 G9 n) = scAt (kAt arg4 X4) (qAt arg3 X3 h) (2 * n)
    ∧ arg8.view.readAt (Elt F) (r8 h).toLoadRect (after8 𝒱 c bd i arg3 harg3 arg4 harg4 arg5 harg5 arg6 harg6 arg7 harg7 arg8 harg8 arg9 harg9 v9 X3 X4 X5 G7 G8 G9 n) = mAt (kAt arg4 X4) (qAt arg3 X3 h) (2 * n)
    ∧ arg9.view.readAt (Elt F) (r9 h).toLoadRect (after9 𝒱 c bd i arg3 harg3 arg4 harg4 arg5 harg5 arg6 harg6 arg7 harg7 arg8 harg8 arg9 harg9 v9 X3 X4 X5 G7 G8 G9 n)
        = aAt (kAt arg4 X4) (vAt arg5 X5) (qAt arg3 X3 h) (2 * n) := by
  induction n with
  | zero => exact ⟨h7, h8, h9⟩
  | succ n ih =>
    obtain ⟨i7, i8, i9⟩ := ih (Nat.le_of_succ_le hn)
    have hk : n < k0_t1_loop.trips := hn
    have e0 : (Fin.ofNat 8 (2 * n) : Fin 8) = j0 ⟨n, hk⟩ := Fin.ext (Nat.mod_eq_of_lt (j0 ⟨n, hk⟩).isLt)
    have e1 : (Fin.ofNat 8 (2 * n + 1) : Fin 8) = j1 ⟨n, hk⟩ := Fin.ext (Nat.mod_eq_of_lt (j1 ⟨n, hk⟩).isLt)
    have e2 : (Fin.ofNat 8 (2 * n + 2) : Fin 8) = j2 ⟨n, hk⟩ := Fin.ext (Nat.mod_eq_of_lt (j2 ⟨n, hk⟩).isLt)
    have hs := pb_k0_t1_succ (F := F) 𝒱 c bd i arg3 harg3 arg4 harg4 arg5 harg5 arg6 harg6 arg7 harg7 arg8 harg8 arg9 harg9 v9 X3 X4 X5 G7 G8 G9 ⟨n, hk⟩
    dsimp only at hs
    refine ⟨?_, ?_, ?_⟩
    · unfold after7; rw [hs, View.writes_append, trip_scores]
      simp only [scAt, Nat.mul_succ, e2]
    · unfold after8; rw [hs, View.writes_append, trip_max]
      simp only [mAt, Nat.mul_succ, scAt, e1, i7, i8, ← e0]
    · unfold after9; rw [hs, View.writes_append, trip_acc]
      simp only [aAt, mAt, Nat.mul_succ, scAt, e1, i7, i8, i9, ← e0]

/-- The scores read after `n` trips do not depend on what the score buffer held outside the slot. -/
theorem loop_scores (h : Fin 4) (B7 : BufTy.Contents (Elt F) arg7.view.ty)
    (h7 : arg7.view.readAt (Elt F) (r7 0 h).toLoadRect B7 = scAt (kAt arg4 X4) (qAt arg3 X3 h) 0)
    (n : ℕ) (hn : n ≤ k0_t1_loop.trips) :
    arg7.view.readAt (Elt F) (r7 0 h).toLoadRect
        (arg7.view.writes (Elt F) B7 (pb_k0_t1 (F := F) 𝒱 c bd i arg3 harg3 arg4 harg4 arg5 harg5 arg6 harg6 arg7 harg7 arg8 harg8 arg9 harg9 v9 X3 X4 X5 G7 G8 G9 n).1)
      = scAt (kAt arg4 X4) (qAt arg3 X3 h) (2 * n) := by
  cases n with
  | zero => exact h7
  | succ n =>
    have hk : n < k0_t1_loop.trips := hn
    have e2 : (Fin.ofNat 8 (2 * n + 2) : Fin 8) = j2 ⟨n, hk⟩ := Fin.ext (Nat.mod_eq_of_lt (j2 ⟨n, hk⟩).isLt)
    have hs := pb_k0_t1_succ (F := F) 𝒱 c bd i arg3 harg3 arg4 harg4 arg5 harg5 arg6 harg6 arg7 harg7 arg8 harg8 arg9 harg9 v9 X3 X4 X5 G7 G8 G9 ⟨n, hk⟩
    dsimp only at hs
    rw [hs, View.writes_append, trip_scores]
    simp only [scAt, Nat.mul_succ, e2]

end Cert.KernelIdeal.Att

end
-- ==== Proof.Body.lean ====
module

public import proofs.«01_k».proof.Proof.Loop
public import proofs.«01_k».proof.Proof.Gen.KernelIdeal.Frame

@[expose] public section

set_option maxRecDepth 16384

noncomputable section

/-! The body at one grid point: what it leaves in the result's block, as a function of the blocks it was given. -/

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg3 : Memref sig .tc .vmem S1x4x128x512 .bf16) (harg3 : arg3.IsWhole) (arg4 : Memref sig .tc .vmem S1x8x512x128 .bf16) (harg4 : arg4.IsWhole) (arg5 : Memref sig .tc .vmem S1x8x80x512 .bf16) (harg5 : arg5.IsWhole) (arg6 : Memref sig .tc .vmem S1x512x256 .bf16) (harg6 : arg6.IsWhole) (arg7 : Memref sig .tc .vmem S2x4x512x512 .f32) (harg7 : arg7.IsWhole) (arg8 : Memref sig .tc .vmem S4x1x512 .f32) (harg8 : arg8.IsWhole) (arg9 : Memref sig .tc .vmem S4x80x512 .f32) (harg9 : arg9.IsWhole) (X3 : BufTy.Contents (Elt F) arg3.view.ty) (X4 : BufTy.Contents (Elt F) arg4.view.ty) (X5 : BufTy.Contents (Elt F) arg5.view.ty)

/-- One head's sums once all eight chunks are taken in. -/
abbrev outAt (h : Fin 4) : Vec F S1x80x512 .f32 := aAt (kAt arg4 X4) (vAt arg5 X5) (qAt arg3 X3 h) 8

theorem pay1_congr {a a' b b' c c' d d' : Vec F S1x80x512 .f32} (h0 : a = a') (h1 : b = b') (h2 : c = c') (h3 : d = d') :
    k0_pay1 a b c d = k0_pay1 a' b' c' d' := by rw [h0, h1, h2, h3]

/-! ### The scratch as the loop finds it -/

/-- The stores before the loop: the four heads' first scores, the maxima, the sums. -/
abbrev pre7 : List (View.Piece (Elt F) S2x4x512x512 .f32) :=
  [⟨r7 0 3, scoresOf (kAt arg4 X4 0) (qAt arg3 X3 3)⟩, ⟨r7 0 2, scoresOf (kAt arg4 X4 0) (qAt arg3 X3 2)⟩,
    ⟨r7 0 1, scoresOf (kAt arg4 X4 0) (qAt arg3 X3 1)⟩, ⟨r7 0 0, scoresOf (kAt arg4 X4 0) (qAt arg3 X3 0)⟩]
abbrev pre8 : List (View.Piece (Elt F) S4x1x512 .f32) :=
  [⟨Rect.unit (s := S4x1x512) ![0, 0, 0] ![4, 1, 512] inb_S4x1x512_S4x1x512_0_0_0, k0_pay59⟩]
abbrev pre9 : List (View.Piece (Elt F) S4x80x512 .f32) :=
  [⟨Rect.unit (s := S4x80x512) ![0, 0, 0] ![4, 80, 512] inb_S4x80x512_S4x80x512_0_0_0, k0_pay60⟩]

theorem pre7_read (f7 : BufTy.Contents (Elt F) arg7.view.ty) (h : Fin 4) :
    arg7.view.readAt (Elt F) (r7 0 h).toLoadRect (arg7.view.writes (Elt F) f7 (pre7 arg3 arg4 X3 X4))
      = scAt (kAt arg4 X4) (qAt arg3 X3 h) 0 := by
  rcases fin4_cases h with rfl | rfl | rfl | rfl
  all_goals
    repeat refine (readAt_miss _ _ _ _ _ _ (by decide)).trans ?_
    exact readAt_hit _ _ _ _ _

theorem pre8_read (f8 : BufTy.Contents (Elt F) arg8.view.ty) (h : Fin 4) :
    arg8.view.readAt (Elt F) (r8 h).toLoadRect (arg8.view.writes (Elt F) f8 pre8) = mZero := by
  funext x
  refine (View.read_writes_cons_unit_of_mem arg8.view f8 _ k0_pay59 [] ((r8 h).idx x) ((r8 h).idx x) rfl ?_).trans rfl
  intro a; fin_cases a <;> exact (Nat.zero_add _).symm

theorem pre9_read (f9 : BufTy.Contents (Elt F) arg9.view.ty) (h : Fin 4) :
    arg9.view.readAt (Elt F) (r9 h).toLoadRect (arg9.view.writes (Elt F) f9 pre9) = aZero := by
  funext x
  refine (View.read_writes_cons_unit_of_mem arg9.view f9 _ k0_pay60 [] ((r9 h).idx x) ((r9 h).idx x) rfl ?_).trans rfl
  intro a; fin_cases a <;> exact (Nat.zero_add _).symm

/-- What the body does to a head after the loop, from what the loop left. -/
theorem tail_eq (f7 : BufTy.Contents (Elt F) arg7.view.ty) (h : Fin 4) :
    aUp (vAt arg5 X5 7) (scoresOf (kAt arg4 X4 7) (qAt arg3 X3 h))
      (mUp (arg7.view.readCov ((pb_k0_t1 (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4)) (arg8.view.writes (Elt F) arg8.view.junk pre8) (arg9.view.writes (Elt F) arg9.view.junk pre9) k0_t1_loop.trips).1 ++ pre7 arg3 arg4 X3 X4) (r7 0 h).toLoadRect) (arg8.view.readCov ((pb_k0_t1 (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4)) (arg8.view.writes (Elt F) arg8.view.junk pre8) (arg9.view.writes (Elt F) arg9.view.junk pre9) k0_t1_loop.trips).2.1 ++ pre8) (r8 h).toLoadRect))
      (aUp (vAt arg5 X5 6) (arg7.view.readCov ((pb_k0_t1 (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4)) (arg8.view.writes (Elt F) arg8.view.junk pre8) (arg9.view.writes (Elt F) arg9.view.junk pre9) k0_t1_loop.trips).1 ++ pre7 arg3 arg4 X3 X4) (r7 0 h).toLoadRect)
        (arg8.view.readCov ((pb_k0_t1 (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4)) (arg8.view.writes (Elt F) arg8.view.junk pre8) (arg9.view.writes (Elt F) arg9.view.junk pre9) k0_t1_loop.trips).2.1 ++ pre8) (r8 h).toLoadRect) (arg9.view.readCov ((pb_k0_t1 (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4)) (arg8.view.writes (Elt F) arg8.view.junk pre8) (arg9.view.writes (Elt F) arg9.view.junk pre9) k0_t1_loop.trips).2.2 ++ pre9) (r9 h).toLoadRect))
      = outAt arg3 arg4 arg5 X3 X4 X5 h := by
  have hs := loop_state (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4))
    (arg8.view.writes (Elt F) arg8.view.junk pre8) (arg9.view.writes (Elt F) arg9.view.junk pre9) h
    (pre7_read arg3 arg4 arg7 X3 X4 f7 h) (pre8_read arg8 _ h) (pre9_read arg9 _ h) k0_t1_loop.trips le_rfl
  have h7 := loop_scores (F := F) Variants.none c none i arg3 harg3 arg4 harg4 arg5 harg5 arg6 harg6 arg7 harg7 arg8 harg8 arg9 harg9 (k0_pay61 (kAt arg4 X4 0)) X3 X4 X5 (arg7.view.writes (Elt F) f7 (pre7 arg3 arg4 X3 X4))
    (arg8.view.writes (Elt F) arg8.view.junk pre8) (arg9.view.writes (Elt F) arg9.view.junk pre9) h
    (arg7.view.writes (Elt F) arg7.view.junk (pre7 arg3 arg4 X3 X4))
    (pre7_read arg3 arg4 arg7 X3 X4 _ h) k0_t1_loop.trips le_rfl
  unfold View.readCov
  rw [View.writes_append, View.writes_append, View.writes_append, h7, hs.2.1, hs.2.2]
  rfl

set_option maxHeartbeats 4000000 in
/-- The body at a point, from its blocks and any scratch: the blocks it reads are as they were, and the result's block
    is the four heads' final sums, divided and laid out. -/
theorem sound_body (f6 : BufTy.Contents (Elt F) arg6.view.ty) (f7 : BufTy.Contents (Elt F) arg7.view.ty) (f8 : BufTy.Contents (Elt F) arg8.view.ty)
    (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
    ⊢ wp frame (wpE (defs₀ (F := F)) Variants.none (c : Thread nD τ) none) Set.univ (cc0_attention (F := F) i arg3 harg3 arg4 harg4 arg5 harg5 arg6 harg6 arg7 harg7 arg8 harg8 arg9 harg9)
      (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜arg6.view.readAt (Elt F) (Rect.unit (s := S1x512x256) ![0, 0, 0] S1x512x256.size (by decide)).toLoadRect f = k0_pay1 (outAt arg3 arg4 arg5 X3 X4 X5 0) (outAt arg3 arg4 arg5 X3 X4 X5 1) (outAt arg3 arg4 arg5 X3 X4 X5 2) (outAt arg3 arg4 arg5 X3 X4 X5 3)⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))) := by
  iintro ⟨H3, H4, H5, H6, H7, H8, H9⟩
  sl_unfold [cc0_attention]
  sl_exec
  sl_step
  isplitl [H3]; · iexact H3
  isplitl [H4]; · iexact H4
  isplitl [H5]; · iexact H5
  isplitl [H6]
  · iexists _; isplitl [H6]; · iexact H6
    sl_unfold_run_names
    ipureintro
    refine (readAt_hit _ _ _ _ _).trans ?_
    simp (disch := decide) only [↓readCov_hit, ↓readCov_miss]
    simp only [score_0, score_1, score_2, score_3, score_4, score_5, score_6, score_7, score_8, score_9, score_10, score_11, score_12, score_13, score_14, score_15, max_0, max_1, max_2, max_3, max_4, max_5, max_6, max_7, max_8, max_9, max_10, max_11, max_12, max_13, max_14, max_15, acc_0, acc_1, acc_2, acc_3, acc_4, acc_5, acc_6, acc_7, acc_8, acc_9, acc_10, acc_11, acc_12, acc_13, acc_14, acc_15]
    have e (h : Fin 4) := tail_eq (F := F) c i arg3 harg3 arg4 harg4 arg5 harg5 arg6 harg6 arg7 harg7 arg8 harg8 arg9 harg9 X3 X4 X5 f7 h
    exact pay1_congr (e 0) (e 1) (e 2) (e 3)
  isplitl [H7]; · iexists _; iexact H7
  isplitl [H8]; · iexists _; iexact H8
  iexists _; iexact H9

end Cert.KernelIdeal.Att

end
-- ==== Proof.Run.lean ====
module

public import proofs.«01_k».proof.Proof.Body
public import Idealize.ShloMosaic.Lib.Claim

@[expose] public section

set_option maxRecDepth 16384

noncomputable section

/-! The proof data of the attention's pipeline, its body obligation at every point, and the run of the program. -/

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's result as a function of the three blocks -/

section Block

variable (x3 : Vec F S1x4x128x512 .bf16) (x4 : Vec F S1x8x512x128 .bf16) (x5 : Vec F S1x8x80x512 .bf16)

/-- Head `h`'s queries, key chunk `j`, value chunk `j` of the blocks. -/
abbrev qOf (h : Fin 4) : Vec F S1x1x128x512 .bf16 := fun x => x3 ((r3 h).toLoadRect.idx x)
abbrev kOf (j : Fin 8) : Vec F S1x1x512x128 .bf16 := fun x => x4 ((r4 j).toLoadRect.idx x)
abbrev vOf (j : Fin 8) : Vec F S1x1x80x512 .bf16 := fun x => x5 ((r5 j).toLoadRect.idx x)

/-- Head `h`'s final sums, and the block written from the four heads'. -/
abbrev headOut (h : Fin 4) : Vec F S1x80x512 .f32 := aAt (kOf x4) (vOf x5) (qOf x3 h) 8
def blkOut : Vec F S1x512x256 .bf16 :=
  k0_pay1 (headOut x3 x4 x5 0) (headOut x3 x4 x5 1) (headOut x3 x4 x5 2) (headOut x3 x4 x5 3)

end Block

section Body

variable (c : Dev nD) (i : grid0.Coords) (arg3 : Memref sig .tc .vmem S1x4x128x512 .bf16) (harg3 : arg3.IsWhole) (arg4 : Memref sig .tc .vmem S1x8x512x128 .bf16) (harg4 : arg4.IsWhole) (arg5 : Memref sig .tc .vmem S1x8x80x512 .bf16) (harg5 : arg5.IsWhole) (arg6 : Memref sig .tc .vmem S1x512x256 .bf16) (harg6 : arg6.IsWhole) (arg7 : Memref sig .tc .vmem S2x4x512x512 .f32) (harg7 : arg7.IsWhole) (arg8 : Memref sig .tc .vmem S4x1x512 .f32) (harg8 : arg8.IsWhole) (arg9 : Memref sig .tc .vmem S4x80x512 .f32) (harg9 : arg9.IsWhole)

/-- A whole buffer read through the box that is all of it. -/
theorem read_of_readAt (v : View sig .tc .vmem S1x512x256 .bf16) (f : v.ty.Contents (Elt F)) (w : Vec F S1x512x256 .bf16) (hb)
    (h : v.readAt (Elt F) (Rect.unit (s := S1x512x256) ![0, 0, 0] S1x512x256.size hb).toLoadRect f = w) : v.read (Elt F) f = w := by
  funext y
  refine Eq.trans ?_ (congrFun h y)
  refine congrArg (v.read (Elt F) f) (funext fun a => Fin.ext ?_)
  fin_cases a <;> exact ((Nat.zero_add _).trans (Nat.one_mul _)).symm

set_option maxHeartbeats 1000000 in
/-- The body's triple, for any continuation: the input blocks come back as they were, the result's block at `blkOut`
    of them, the scratch at anything. -/
theorem sound_kernel (x3 : Vec F S1x4x128x512 .bf16) (x4 : Vec F S1x8x512x128 .bf16) (x5 : Vec F S1x8x80x512 .bf16)
    (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare (blkOut x3 x4 x5) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none (c : Thread nD τ) none) Set.univ (cc0_attention (F := F) i arg3 harg3 arg4 harg4 arg5 harg5 arg6 harg6 arg7 harg7 arg8 harg8 arg9 harg9) K := by
  unfold owns
  iintro ⟨⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, Hk⟩
  iapply (wp_wand_r Idealize.ShloMosaic.frame (wpE (defs₀ (F := F)) Variants.none (c : Thread nD τ) none) Set.univ)
  isplitl [H3 H4 H5 H6 H7 H8 H9]
  · iapply (sound_body (F := F) c i arg3 harg3 arg4 harg4 arg5 harg5 arg6 harg6 arg7 harg7 arg8 harg8 arg9 harg9 f3 f4 f5 f6 f7 f8 f9)
    isplitl [H3]; · iexact H3
    isplitl [H4]; · iexact H4
    isplitl [H5]; · iexact H5
    isplitl [H6]; · iexact H6
    isplitl [H7]; · iexact H7
    isplitl [H8]; · iexact H8
    iexact H9
  iintro %_ ⟨H3, H4, H5, ⟨%g6, H6, %e6⟩, ⟨%g7, H7⟩, ⟨%g8, H8⟩, ⟨%g9, H9⟩⟩
  iapply Hk
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]
  · iexists g6; isplitr
    · ipureintro
      subst e3 e4 e5
      exact read_of_readAt _ _ _ _ e6
    iexact H6
  isplitl [H7]; · iexists _, g7; isplitr; swap; (· iexact H7); ipureintro; rfl
  isplitl [H8]; · iexists _, g8; isplitr; swap; (· iexact H8); ipureintro; rfl
  iexists _, g9; isplitr; swap; (· iexact H9); ipureintro; rfl

end Body

/-! ### The pipeline's proof data -/

variable (m : (ℓ : Loc nD τ sig) → Buf (Elt F) ℓ) (ρ : Dev nD → PrngReg)

/-- The arrays as the region finds them; after a point each input's block in place and the result's at `blkOut`; the
    scratch and the generator register held at anything between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = blkOut (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The invariant between points, opened: the three scratch buffers at some contents and the generator register. -/
theorem Phi_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ ∃ r, prngReg c r) := by
  unfold Pipeline.ΦA
  rw [scopedRest0_eq]; simp only [owns_whole]; try rfl

/-- What the body is handed at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after_0, after_1, after_2, after_3]
  iintro ⟨⟨⟨H7, H8, H9⟩, Hg⟩, Ho, ⟨%d0, H0⟩, ⟨%d1, H1⟩, ⟨%d2, H2⟩, ⟨%d3, H3⟩⟩
  iapply (sound_kernel c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, H3, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ### The run -/

-- the launch theorem's implicit arguments are found by unifying its conclusion with this one
set_option backward.isDefEq.respectTransparency.types false in
/-- From any memory with zero counters every execution terminates, with every array at what the proof data compute,
    every other unscoped buffer as the region found it, and the counters at zero again. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Att

end
-- ==== Proof.Reads.lean ====
/-
  The body's pure steps READ AT AN INDEX at the extended reals: a chunk's scores, the new running maximum, the new
  accumulator and the block written out.
-/
module

public import proofs.«01_k».proof.Proof.Run
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.Pointwise

/-- A score: the key row times the query column. -/
theorem scoresOf_apply (kc : Vec Ideal S1x1x512x128 .bf16) (q : Vec Ideal S1x1x128x512 .bf16) (s r : Fin 512) :
    scoresOf kc q (ix4 0 0 s r) = ∑ d : Fin 128, (kc (ix4 0 0 s d) * q (ix4 0 0 d r) : EReal) := by
  pointwise [scoresOf, k0_pay4, k0_pay2]

/-- The new running maximum of a query. -/
theorem mUp_apply (st : Vec Ideal S1x1x512x512 .f32) (mx : Vec Ideal S1x1x512 .f32) (r : Fin 512) :
    mUp st mx (ix3 0 0 r)
      = max (mx (ix3 0 0 r) : EReal) (Finset.univ.fold max (Ideal.ofBits .f32 0xFF800000#32) fun s : Fin 512 => st (ix4 0 0 s r)) := by
  pointwise [mUp, k0_pay70, k0_pay68, k0_pay67, k0_pay66]

/-- The new accumulator at (value row, query): the old one rescaled plus the chunk's weighted values. -/
theorem aUp_apply (vt : Vec Ideal S1x1x80x512 .bf16) (st : Vec Ideal S1x1x512x512 .f32) (mx : Vec Ideal S1x1x512 .f32)
    (ac : Vec Ideal S1x80x512 .f32) (d : Fin 80) (r : Fin 512) :
    aUp vt st mx ac (ix3 0 d r)
      = Ideal.exp2 ((mx (ix3 0 0 r) : EReal) - mUp st mx (ix3 0 0 r)) * ac (ix3 0 d r)
        + ∑ s : Fin 512, (vt (ix4 0 0 d s) : EReal) * Ideal.exp2 ((st (ix4 0 0 s r) : EReal) - mUp st mx (ix3 0 0 r)) := by
  rw [mUp_apply]
  pointwise [aUp, k0_pay69, k0_pay68, k0_pay67, k0_pay66, k0_pay39]
  rfl

/-- The block written out, at (query, head, lane): the head's accumulator row over its row of sums. -/
theorem pay1_apply (a : Fin 4 → Vec Ideal S1x80x512 .f32) (r : Fin 512) (h : Fin 4) (d : Fin 64) :
    k0_pay1 (a 0) (a 1) (a 2) (a 3) (ix3 0 r (⟨64 * h.val + d.val, by omega⟩ : Fin 256))
      = Ideal.div (a h (ix3 0 (⟨d.val, by omega⟩ : Fin 80) r)) (a h (ix3 0 (64 : Fin 80) r)) := by
  fin_cases h <;> pointwise [k0_pay1]
  · rw [dif_neg (by omega), dif_neg (by omega), dif_pos (by omega)]
    simp only [show 128 + d.val - 64 - 64 = d.val by omega]
  · rw [dif_neg (by omega), dif_neg (by omega), dif_neg (by omega)]
    simp only [show 192 + d.val - 64 - 64 - 64 = d.val by omega]

end Cert.KernelIdeal.Att
-- ==== Proof.Softmax.lean ====
/-
  THE MATHEMATICS: a softmax-weighted sum over `n` keys, and the two ways the programs compute it. One takes the whole
  row's maximum, exponentiates, divides and then sums; the other goes through the keys in chunks with base-2 powers,
  keeping a running maximum and an accumulator it rescales, and divides at the end. Scores are real numbers, values any
  extended reals.
-/
module

public import Idealize.ShloMosaic.PureOps.Ideal.Laws
public import Mathlib.Analysis.SpecialFunctions.Pow.Real

@[expose] public section

noncomputable section

namespace Cert.Softmax

open Idealize.ShloMosaic

/-- The softmax-weighted sum of the values. -/
def attn {ι : Type} [Fintype ι] (y : ι → ℝ) (v : ι → EReal) : EReal :=
  ∑ s, v s * ((Real.exp (y s) / ∑ s', Real.exp (y s') : ℝ) : EReal)

/-- A nonnegative real factor goes into a sum of extended reals. -/
theorem coe_mul_sum {ι : Type} (S : Finset ι) {c : ℝ} (hc : 0 ≤ c) (f : ι → EReal) :
    (c : EReal) * ∑ s ∈ S, f s = ∑ s ∈ S, (c : EReal) * f s := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- A sum of reals read among the extended reals. -/
theorem coe_sum {ι : Type} (S : Finset ι) (f : ι → ℝ) : ((∑ s ∈ S, f s : ℝ) : EReal) = ∑ s ∈ S, (f s : EReal) := by
  classical
  induction S using Finset.induction_on with
  | empty => simp
  | insert a S ha ih => rw [Finset.sum_insert ha, Finset.sum_insert ha, EReal.coe_add, ih]

/-- The maximum of a nonempty row of reals, taken from `-∞`, is a real. -/
theorem fold_max_real {n : ℕ} (f : Fin (n + 1) → ℝ) :
    ∃ r : ℝ, (Finset.univ.fold max ⊥ fun s : Fin (n + 1) => (f s : EReal)) = (r : EReal) := by
  obtain ⟨i, _, hi⟩ := Finset.exists_mem_eq_sup Finset.univ Finset.univ_nonempty fun s : Fin (n + 1) => (f s : EReal)
  exact ⟨f i, hi⟩

/-- Division by a positive real. -/
theorem div_pos_real (x : EReal) {r : ℝ} (hr : 0 < r) : Ideal.div x (r : EReal) = x * ((r⁻¹ : ℝ) : EReal) := by
  unfold Ideal.div
  rw [if_neg (by exact_mod_cast hr.ne'), EReal.coe_inv]

/-- A weighted sum divided by a positive real: each weight divided. -/
theorem sum_mul_div {ι : Type} (S : Finset ι) (v : ι → EReal) (w : ι → ℝ) {L : ℝ} (hL : 0 < L) :
    Ideal.div (∑ s ∈ S, v s * (w s : EReal)) (L : EReal) = ∑ s ∈ S, v s * ((w s / L : ℝ) : EReal) := by
  rw [div_pos_real _ hL, mul_comm, coe_mul_sum S (inv_nonneg.mpr hL.le)]
  refine Finset.sum_congr rfl fun s _ => ?_
  rw [div_eq_mul_inv, EReal.coe_mul, mul_comm, mul_assoc]

/-- THE PLAIN FORM: shifted by any real, exponentiated, divided by the sum, then summed against the values. -/
theorem plain_eq {ι : Type} [Fintype ι] [Nonempty ι] (y : ι → ℝ) (v : ι → EReal) (M : ℝ) :
    ∑ s, v s * Ideal.div (Ideal.exp ((y s : EReal) - (M : EReal))) (∑ s', Ideal.exp ((y s' : EReal) - (M : EReal)))
      = attn y v := by
  have e : ∀ s, Ideal.exp ((y s : EReal) - (M : EReal)) = ((Real.exp (y s - M) : ℝ) : EReal) := fun s => by
    rw [← EReal.coe_sub]; rfl
  simp only [e]
  rw [← coe_sum]
  have hL : 0 < ∑ s, Real.exp (y s - M) := Finset.sum_pos (fun _ _ => Real.exp_pos _) Finset.univ_nonempty
  refine Finset.sum_congr rfl fun s _ => ?_
  rw [div_pos_real _ hL, ← EReal.coe_mul]
  congr 2
  simp only [Real.exp_sub]
  rw [← Finset.sum_div]
  have := Real.exp_ne_zero M
  have : (∑ s, Real.exp (y s)) ≠ 0 := (Finset.sum_pos (fun _ _ => Real.exp_pos _) Finset.univ_nonempty).ne'
  field_simp

/-! ### The chunked form -/

section Chunks

variable {c : ℕ} (x : ℕ → Fin (c + 1) → ℝ)

/-- The running maximum after `n` chunks. -/
def runMax : ℕ → EReal
  | 0 => ⊥
  | n + 1 => max (runMax n) (Finset.univ.fold max ⊥ fun s : Fin (c + 1) => (x n s : EReal))

/-- The accumulator after `n` chunks. -/
def runAcc (v : ℕ → Fin (c + 1) → EReal) : ℕ → EReal
  | 0 => 0
  | n + 1 => Ideal.exp2 (runMax x n - runMax x (n + 1)) * runAcc v n
      + ∑ s : Fin (c + 1), v n s * Ideal.exp2 ((x n s : EReal) - runMax x (n + 1))

/-- After at least one chunk the running maximum is a real. -/
theorem runMax_real (n : ℕ) : ∃ r : ℝ, runMax x (n + 1) = (r : EReal) := by
  induction n with
  | zero =>
    obtain ⟨r, hr⟩ := fold_max_real (x 0)
    exact ⟨r, by rw [runMax, runMax, hr]; exact max_eq_right bot_le⟩
  | succ n ih =>
    obtain ⟨r, hr⟩ := fold_max_real (x (n + 1))
    obtain ⟨q, hq⟩ := ih
    refine ⟨max q r, ?_⟩
    rw [runMax, hr, hq]
    exact (EReal.coe_strictMono.monotone.map_max).symm

theorem exp2_sub (a b : ℝ) : Ideal.exp2 ((a : EReal) - (b : EReal)) = (((2 : ℝ) ^ (a - b) : ℝ) : EReal) := by
  rw [← EReal.coe_sub]; rfl

/-- The accumulator after `n + 1` chunks: the values so far, each weighted by its power of two below the maximum. -/
theorem runAcc_eq (v : ℕ → Fin (c + 1) → EReal) (n : ℕ) (m : ℝ) (hm : runMax x (n + 1) = (m : EReal)) :
    runAcc x v (n + 1)
      = ∑ j ∈ Finset.range (n + 1), ∑ s : Fin (c + 1), v j s * (((2 : ℝ) ^ (x j s - m) : ℝ) : EReal) := by
  induction n generalizing m with
  | zero =>
    rw [runAcc, hm, Finset.sum_range_one]
    simp only [runMax, runAcc, mul_zero, zero_add, exp2_sub]
  | succ n ih =>
    obtain ⟨q, hq⟩ := runMax_real x n
    rw [runAcc, ih q hq, hm, hq, Finset.sum_range_succ _ (n + 1)]
    simp only [exp2_sub]
    congr 1
    have h2 : (0 : ℝ) ≤ 2 ^ (q - m) := (Real.rpow_pos_of_pos two_pos _).le
    rw [coe_mul_sum _ h2]
    refine Finset.sum_congr rfl fun j _ => ?_
    rw [coe_mul_sum _ h2]
    refine Finset.sum_congr rfl fun s _ => ?_
    rw [mul_left_comm, ← EReal.coe_mul, ← Real.rpow_add two_pos]
    congr 3
    ring

/-- THE CHUNKED FORM: the accumulator of the values over the accumulator of ones is the softmax-weighted sum. -/
theorem chunks_eq (N : ℕ) (y : ℕ → Fin (c + 1) → ℝ) (hx : ∀ j s, x j s = y j s * (Real.log 2)⁻¹)
    (v u : ℕ → Fin (c + 1) → EReal) (hu : ∀ j s, u j s = 1) :
    Ideal.div (runAcc x v (N + 1)) (runAcc x u (N + 1))
      = attn (fun i : Fin (N + 1) × Fin (c + 1) => y i.1 i.2) (fun i => v i.1 i.2) := by
  obtain ⟨m, hm⟩ := runMax_real x N
  rw [runAcc_eq x v N m hm, runAcc_eq x u N m hm]
  have hw : ∀ j s, (2 : ℝ) ^ (x j s - m) = Real.exp (y j s) * (2 : ℝ) ^ (-m) := fun j s => by
    rw [sub_eq_add_neg, Real.rpow_add two_pos]
    congr 1
    rw [Real.rpow_def_of_pos two_pos, hx]
    congr 1
    have := (Real.log_pos one_lt_two).ne'
    field_simp
  have h2 : (0 : ℝ) < 2 ^ (-m) := Real.rpow_pos_of_pos two_pos _
  simp only [hw, hu, one_mul]
  simp only [Finset.sum_range, ← Fintype.sum_prod_type', ← coe_sum]
  rw [sum_mul_div _ _ _ (Finset.sum_pos (fun _ _ => mul_pos (Real.exp_pos _) h2) Finset.univ_nonempty)]
  refine Finset.sum_congr rfl fun i _ => ?_
  congr 2
  rw [← Finset.sum_mul, mul_div_mul_right _ _ h2.ne']

end Chunks

/-- The weighted sum does not change when the keys are named otherwise. -/
theorem attn_equiv {ι κ : Type} [Fintype ι] [Fintype κ] (e : ι ≃ κ) (y : κ → ℝ) (v : κ → EReal) :
    attn (fun i => y (e i)) (fun i => v (e i)) = attn y v := by
  unfold attn
  rw [← Equiv.sum_comp e, Equiv.sum_comp e fun s => Real.exp (y s)]

end Cert.Softmax
-- ==== Proof.HostOps.lean ====
/-
  The host's layout operations before the region, read at an index at the extended reals: the scaled queries beside
  zeros, the keys in chunks, the values over a row of ones.
-/
module

public import proofs.«01_k».proof.Proof.Gen.KernelIdeal.Frame
public import Idealize.ShloMosaic.Lib.Pointwise
public import Idealize.ShloMosaic.Lib.IdealHost
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.ShloMosaic.Pointwise Idealize.ShloMosaic.StableHlo

/-- The factor of the queries: an eighth over the logarithm of two. -/
def scale : FVec Ideal S_ .f32 :=
  mulf (constant S_ .f32 0x3E000000#32) (Host.divf (constant S_ .f32 0x3F800000#32) (Host.log (constant S_ .f32 0x40000000#32)))

/-- The scaled queries, transposed. -/
def hostQ5 (q : FVec Ideal S16x4096x8x64 .f32) : FVec Ideal S16x8x64x4096 .f32 :=
  transpose S16x8x64x4096 [0, 2, 3, 1] (mulf q (broadcastInDim S16x4096x8x64 ![] bcast_S_S16x4096x8x64 scale)) transposes_S16x4096x8x64_S16x8x64x4096_0_2_3_1

/-- Half a head group's rows of zeros. -/
def hostZ : FVec Ideal S16x4x64x4096 .f32 := broadcastInDim S16x4x64x4096 ![] bcast_S_S16x4x64x4096 (constant S_ .f32 0x00000000#32)

/-- The padded queries. -/
def hostQ (q : FVec Ideal S16x4096x8x64 .f32) : FVec Ideal S16x8x128x4096 .bf16 :=
  truncf .bf16 (concatenate S16x8x128x4096 1
    [⟨S16x4x128x4096, concatenate S16x4x128x4096 2
      [⟨S16x4x64x4096, extractStridedSlice S16x4x64x4096 ![0, 0, 0, 0] (hostQ5 q) slices_S16x8x64x4096_S16x4x64x4096_0_0_0_0⟩,
        ⟨S16x4x64x4096, hostZ⟩] concatenates_S16x4x64x4096_S16x4x64x4096_S16x4x128x4096_d2⟩,
     ⟨S16x4x128x4096, concatenate S16x4x128x4096 2
      [⟨S16x4x64x4096, hostZ⟩,
        ⟨S16x4x64x4096, extractStridedSlice S16x4x64x4096 ![0, 4, 0, 0] (hostQ5 q) slices_S16x8x64x4096_S16x4x64x4096_0_4_0_0⟩]
        concatenates_S16x4x64x4096_S16x4x64x4096_S16x4x128x4096_d2⟩]
    concatenates_S16x4x128x4096_S16x4x128x4096_S16x8x128x4096_d1) bitsLt_bf16_f32

/-- The keys in chunks. -/
def hostK (k : FVec Ideal S16x4096x2x64 .f32) : FVec Ideal S16x8x512x128 .bf16 :=
  truncf .bf16 (shapeCast S16x8x512x128 k shapeCasts_S16x4096x2x64_S16x8x512x128) bitsLt_bf16_f32

/-- The values in chunks, transposed. -/
def hostV16 (v : FVec Ideal S16x4096x2x64 .f32) : FVec Ideal S16x8x2x64x512 .f32 :=
  transpose S16x8x2x64x512 [0, 1, 3, 4, 2] (shapeCast S16x8x512x2x64 v shapeCasts_S16x4096x2x64_S16x8x512x2x64) transposes_S16x8x512x2x64_S16x8x2x64x512_0_1_3_4_2

/-- The values over the ones and the zeros. -/
def hostV19 (v : FVec Ideal S16x4096x2x64 .f32) : FVec Ideal S16x8x2x80x512 .f32 :=
  concatenate S16x8x2x80x512 3
    [⟨S16x8x2x64x512, hostV16 v⟩,
     ⟨S16x8x2x1x512, broadcastInDim S16x8x2x1x512 ![] bcast_S_S16x8x2x1x512 (constant S_ .f32 0x3F800000#32)⟩,
     ⟨S16x8x2x15x512, broadcastInDim S16x8x2x15x512 ![] bcast_S_S16x8x2x15x512 (constant S_ .f32 0x00000000#32)⟩]
    concatenates_S16x8x2x64x512_S16x8x2x1x512_S16x8x2x15x512_S16x8x2x80x512_d3

def hostV (v : FVec Ideal S16x4096x2x64 .f32) : FVec Ideal S16x8x160x512 .bf16 :=
  truncf .bf16 (shapeCast S16x8x160x512 (hostV19 v) shapeCasts_S16x8x2x80x512_S16x8x160x512) bitsLt_bf16_f32

section

variable (m : (ℓ : Loc nD τ sig) → Buf (Elt Ideal) ℓ) (c : Dev nD)

theorem V_q : V m c main_v12 = hostQ (m ((c : Thread nD τ).loc main_arg0)) := by
  unfold_abbrev_sides
  after_results
  rfl
theorem V_k : V m c main_v14 = hostK (m ((c : Thread nD τ).loc main_arg1)) := by
  unfold_abbrev_sides
  after_results
  rfl
theorem V_v : V m c main_v21 = hostV (m ((c : Thread nD τ).loc main_arg2)) := by
  unfold_abbrev_sides
  after_results
  rfl

end

/-! ### Read at an index -/

theorem ofBits_two : Ideal.ofBits .f32 0x40000000#32 = ((2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_one' : Ideal.ofBits .f32 0x3F800000#32 = ((1 : ℝ) : EReal) := by
  simp [Ideal.ofBits, Ideal.ieee, -EReal.coe_mul]; norm_num

/-- The factor, in real numbers. -/
abbrev sc : ℝ := (1 / 8) * (Real.log 2)⁻¹

theorem scale_apply (i : S_.Idx) : scale i = (sc : EReal) := by
  show Ideal.ofBits .f32 0x3E000000#32 * Ideal.div (Ideal.ofBits .f32 0x3F800000#32) (Ideal.log (Ideal.ofBits .f32 0x40000000#32)) = _
  have hl : Real.log 2 ≠ 0 := (Real.log_pos one_lt_two).ne'
  rw [ofBits_two, ofBits_eighth, ofBits_one', Ideal.log_coe, if_neg (by norm_num)]
  unfold Ideal.div
  rw [if_neg (by exact_mod_cast hl), ← EReal.coe_inv, ← EReal.coe_mul, ← EReal.coe_mul, one_mul]

theorem hostQ5_apply (q : FVec Ideal S16x4096x8x64 .f32) (b : Fin 16) (h : Fin 8) (d : Fin 64) (t : Fin 4096) :
    hostQ5 q (ix4 b h d t) = (q (ix4 b t h d) : EReal) * (sc : EReal) := by
  pointwise [hostQ5, scale_apply]

theorem hostZ_apply (i : S16x4x64x4096.Idx) : hostZ i = (0 : EReal) := by
  pointwise [hostZ]

/-- A padded query's entry: the query's in its own half, zero in the other. -/
theorem hostQ_apply (q : FVec Ideal S16x4096x8x64 .f32) (b : Fin 16) (g : Fin 2) (h : Fin 4) (g' : Fin 2) (d : Fin 64) (t : Fin 4096) :
    hostQ q (ix4 b (⟨4 * g.val + h.val, by omega⟩ : Fin 8) (⟨64 * g'.val + d.val, by omega⟩ : Fin 128) t)
      = if g' = g then (q (ix4 b t (⟨4 * g.val + h.val, by omega⟩ : Fin 8) d) : EReal) * (sc : EReal) else 0 := by
  fin_cases g <;> fin_cases g' <;> pointwise [hostQ, hostQ5_apply, hostZ_apply]

/-- A key's entry. -/
theorem hostK_apply (k : FVec Ideal S16x4096x2x64 .f32) (b : Fin 16) (j : Fin 8) (s : Fin 512) (g' : Fin 2) (d : Fin 64) :
    hostK k (ix4 b j s (⟨64 * g'.val + d.val, by omega⟩ : Fin 128))
      = (k (ix4 b (⟨512 * j.val + s.val, by omega⟩ : Fin 4096) g' d) : EReal) := by
  refine (shapeCast_apply k shapeCasts_S16x4096x2x64_S16x8x512x128 _
    (ix4 b (⟨512 * j.val + s.val, by omega⟩ : Fin 4096) g' d) ?_)
  rw [Shape.rowMajor_val_four, Shape.rowMajor_val_four]
  show ((b.val * 4096 + (512 * j.val + s.val)) * 2 + g'.val) * 64 + d.val
    = ((b.val * 8 + j.val) * 512 + s.val) * 128 + (64 * g'.val + d.val)
  omega

theorem hostV16_apply (v : FVec Ideal S16x4096x2x64 .f32) (b : Fin 16) (j : Fin 8) (g : Fin 2) (d : Fin 64) (s : Fin 512) :
    hostV16 v (ix5 b j g d s) = (v (ix4 b (⟨512 * j.val + s.val, by omega⟩ : Fin 4096) g d) : EReal) := by
  unfold hostV16
  refine (transpose_apply [0, 1, 3, 4, 2] _ transposes_S16x8x512x2x64_S16x8x2x64x512_0_1_3_4_2 _ (ix5 b j s g d) ?_).trans ?_
  · intro a
    match a with
    | ⟨0, _⟩ => rfl
    | ⟨1, _⟩ => rfl
    | ⟨2, _⟩ => rfl
    | ⟨3, _⟩ => rfl
    | ⟨4, _⟩ => rfl
  refine (shapeCast_apply v shapeCasts_S16x4096x2x64_S16x8x512x2x64 _
    (ix4 b (⟨512 * j.val + s.val, by omega⟩ : Fin 4096) g d) ?_)
  rw [Shape.rowMajor_val_four, Shape.rowMajor_val_five]
  show ((b.val * 4096 + (512 * j.val + s.val)) * 2 + g.val) * 64 + d.val
    = (((b.val * 8 + j.val) * 512 + s.val) * 2 + g.val) * 64 + d.val
  omega

/-- Row `e` of a group's 80 of a value chunk, read in the array of 160. -/
theorem hostV_row (v : FVec Ideal S16x4096x2x64 .f32) (b : Fin 16) (j : Fin 8) (g : Fin 2) (e : Fin 80) (s : Fin 512) :
    hostV v (ix4 b j (⟨80 * g.val + e.val, by omega⟩ : Fin 160) s) = (hostV19 v (ix5 b j g e s) : EReal) := by
  refine (shapeCast_apply (hostV19 v) shapeCasts_S16x8x2x80x512_S16x8x160x512 _ (ix5 b j g e s) ?_)
  rw [Shape.rowMajor_val_five, Shape.rowMajor_val_four]
  show (((b.val * 8 + j.val) * 2 + g.val) * 80 + e.val) * 512 + s.val = ((b.val * 8 + j.val) * 160 + (80 * g.val + e.val)) * 512 + s.val
  omega

/-- The value rows. -/
theorem hostV_apply (v : FVec Ideal S16x4096x2x64 .f32) (b : Fin 16) (j : Fin 8) (g : Fin 2) (d : Fin 64) (s : Fin 512) :
    hostV19 v (ix5 b j g (⟨d.val, by omega⟩ : Fin 80) s) = (v (ix4 b (⟨512 * j.val + s.val, by omega⟩ : Fin 4096) g d) : EReal) := by
  refine Eq.trans ?_ (hostV16_apply v b j g d s)
  pointwise [hostV19]

/-- The row of ones. -/
theorem hostV_one (v : FVec Ideal S16x4096x2x64 .f32) (b : Fin 16) (j : Fin 8) (g : Fin 2) (s : Fin 512) :
    hostV19 v (ix5 b j g (64 : Fin 80) s) = (1 : EReal) := by
  pointwise [hostV19, ofBits_one']
  exact EReal.coe_one

end Cert.KernelIdeal.Att
-- ==== Proof.Head.lean ====
/-
  One head's result over blocks whose entries are known: the eight chunks' running sums are the chunked softmax, so the
  block's entry is the softmax-weighted sum of the values.
-/
module

public import proofs.«01_k».proof.Proof.Reads
public import proofs.«01_k».proof.Proof.Softmax
public import proofs.«01_k».proof.Proof.HostOps
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.Pointwise Cert.Softmax

/-! ### The slices of the blocks -/

theorem qOf_apply (x3 : Vec Ideal S1x4x128x512 .bf16) (h : Fin 4) (l : Fin 128) (r : Fin 512) :
    qOf x3 h (ix4 0 0 l r) = x3 (ix4 0 h l r) := by
  refine congrArg x3 (funext fun a => Fin.ext ?_)
  fin_cases a <;> refine (Rect.idx_unit_val _ _ _ _ _).trans ?_
  exacts [rfl, rfl, Nat.zero_add _, Nat.zero_add _]

theorem kOf_apply (x4 : Vec Ideal S1x8x512x128 .bf16) (j : Fin 8) (s : Fin 512) (l : Fin 128) :
    kOf x4 j (ix4 0 0 s l) = x4 (ix4 0 j s l) := by
  refine congrArg x4 (funext fun a => Fin.ext ?_)
  fin_cases a <;> refine (Rect.idx_unit_val _ _ _ _ _).trans ?_
  exacts [rfl, rfl, Nat.zero_add _, Nat.zero_add _]

theorem vOf_apply (x5 : Vec Ideal S1x8x80x512 .bf16) (j : Fin 8) (d : Fin 80) (s : Fin 512) :
    vOf x5 j (ix4 0 0 d s) = x5 (ix4 0 j d s) := by
  refine congrArg x5 (funext fun a => Fin.ext ?_)
  fin_cases a <;> refine (Rect.idx_unit_val _ _ _ _ _).trans ?_
  exacts [rfl, rfl, Nat.zero_add _, Nat.zero_add _]

/-- A sum over 128 lanes is a sum over the two halves. -/
theorem sum_halves (f : Fin 128 → EReal) :
    ∑ l : Fin 128, f l = ∑ g : Fin 2, ∑ d : Fin 64, f ⟨64 * g.val + d.val, by omega⟩ := by
  rw [← Fintype.sum_prod_type' (f := fun (g : Fin 2) (d : Fin 64) => f ⟨64 * g.val + d.val, by omega⟩),
    ← Equiv.sum_comp (finProdFinEquiv (m := 2) (n := 64))]
  refine Finset.sum_congr rfl fun p _ => congrArg f (Fin.ext ?_)
  show p.2.val + 64 * p.1.val = 64 * p.1.val + p.2.val
  omega

theorem ofBits_negInf : Ideal.ofBits .f32 0xFF800000#32 = ⊥ := by simp [Ideal.ofBits, Ideal.ieee]

section

variable (x3 : Vec Ideal S1x4x128x512 .bf16) (x4 : Vec Ideal S1x8x512x128 .bf16) (x5 : Vec Ideal S1x8x80x512 .bf16)
  (h : Fin 4) (r : Fin 512) (g : Fin 2) (kr : Fin 8 → Fin 512 → Fin 2 → Fin 64 → ℝ) (qr : Fin 64 → ℝ)
  (hk : ∀ j s g' (d : Fin 64), x4 (ix4 0 j s (⟨64 * g'.val + d.val, by omega⟩ : Fin 128)) = (kr j s g' d : EReal))
  (hq : ∀ (g' : Fin 2) (d : Fin 64), x3 (ix4 0 h (⟨64 * g'.val + d.val, by omega⟩ : Fin 128) r)
    = if g' = g then (qr d : EReal) * (sc : EReal) else 0)

/-- The score of chunk `j`, key `s`, by the natural exponential's and by the power of two's scaling. -/
abbrev yy (j : ℕ) (s : Fin 512) : ℝ := (∑ d : Fin 64, kr (Fin.ofNat 8 j) s g d * qr d) * (1 / 8)
abbrev xx (j : ℕ) (s : Fin 512) : ℝ := yy g kr qr j s * (Real.log 2)⁻¹

include hk hq in
theorem scAt_read (n : ℕ) (s : Fin 512) :
    scAt (kOf x4) (qOf x3 h) n (ix4 0 0 s r) = (xx g kr qr n s : EReal) := by
  refine (scoresOf_apply _ _ s r).trans ?_
  refine (sum_halves _).trans ?_
  have hl : ∀ (g' : Fin 2) (d : Fin 64),
      ((kOf x4 (Fin.ofNat 8 n) (ix4 0 0 s (⟨64 * g'.val + d.val, by omega⟩ : Fin 128)) * qOf x3 h (ix4 0 0 (⟨64 * g'.val + d.val, by omega⟩ : Fin 128) r) : EReal))
        = (kr (Fin.ofNat 8 n) s g' d : EReal) * (if g' = g then (qr d : EReal) * (sc : EReal) else 0) := fun g' d => by
    rw [← hk, ← hq]
    exact congrArg₂ (fun a b : EReal => a * b) (kOf_apply x4 _ s _) (qOf_apply x3 h _ r)
  refine (Finset.sum_congr rfl fun g' _ => Finset.sum_congr rfl fun d _ => hl g' d).trans ?_
  rw [Finset.sum_eq_single g]
  · simp only [if_pos]
    simp only [← EReal.coe_mul]
    rw [← coe_sum]
    congr 1
    simp only [xx, yy, sc, Finset.sum_mul]
    exact Finset.sum_congr rfl fun d _ => by ring
  · intro g' _ hg
    simp only [if_neg hg, mul_zero, Finset.sum_const_zero]
  · exact fun hg => absurd (Finset.mem_univ _) hg

include hk hq in
theorem mAt_read (n : ℕ) : mAt (kOf x4) (qOf x3 h) n (ix3 0 0 r) = runMax (c := 511) (xx g kr qr) n := by
  induction n with
  | zero => exact ofBits_negInf
  | succ n ih =>
    refine (mUp_apply _ _ r).trans ?_
    rw [ih, ofBits_negInf]
    simp only [scAt_read x3 x4 h r g kr qr hk hq]
    rfl

include hk hq in
theorem aAt_read (e : Fin 80) (n : ℕ) :
    aAt (kOf x4) (vOf x5) (qOf x3 h) n (ix3 0 e r)
      = runAcc (c := 511) (xx g kr qr) (fun j s => x5 (ix4 0 (Fin.ofNat 8 j) e s)) n := by
  induction n with
  | zero => exact Ideal.ofBits_zero_f32
  | succ n ih =>
    refine (aUp_apply _ _ _ _ e r).trans ?_
    have h1 := mAt_read x3 x4 h r g kr qr hk hq n
    have h2 : mUp (scAt (kOf x4) (qOf x3 h) n) (mAt (kOf x4) (qOf x3 h) n) (ix3 0 0 r) = _ :=
      mAt_read x3 x4 h r g kr qr hk hq (n + 1)
    rw [ih, h1, h2]
    simp only [scAt_read x3 x4 h r g kr qr hk hq]
    exact congrArg₂ (fun a b : EReal => a + b) rfl (Finset.sum_congr rfl fun s _ =>
      congrArg (fun a : EReal => a * _) (vOf_apply x5 (Fin.ofNat 8 n) e s))

include hk hq in
/-- THE BLOCK at (query, head, lane). -/
theorem blkOut_read (v : Fin 8 → Fin 512 → Fin 64 → EReal)
    (hv : ∀ j s (d : Fin 64), x5 (ix4 0 j (⟨d.val, by omega⟩ : Fin 80) s) = v j s d)
    (hone : ∀ j s, x5 (ix4 0 j (64 : Fin 80) s) = (1 : EReal)) (d : Fin 64) :
    blkOut x3 x4 x5 (ix3 0 r (⟨64 * h.val + d.val, by omega⟩ : Fin 256))
      = attn (fun i : Fin 8 × Fin 512 => (∑ d : Fin 64, kr i.1 i.2 g d * qr d) * (1 / 8)) (fun i => v i.1 i.2 d) := by
  refine (pay1_apply (fun h => headOut x3 x4 x5 h) r h d).trans ?_
  refine (congrArg₂ Ideal.div (aAt_read x3 x4 x5 h r g kr qr hk hq _ 8) (aAt_read x3 x4 x5 h r g kr qr hk hq _ 8)).trans ?_
  rw [chunks_eq (c := 511) (xx g kr qr) 7 (yy g kr qr) (fun _ _ => rfl) _ _ (fun j s => hone _ s)]
  have hj : ∀ j : Fin 8, Fin.ofNat 8 j.val = j := fun j => Fin.ext (Nat.mod_eq_of_lt j.isLt)
  simp only [hv]
  show attn (fun i : Fin 8 × Fin 512 => yy g kr qr i.1.val i.2) _ = _
  simp only [yy, hj]

end

end Cert.KernelIdeal.Att
-- ==== Proof.Blocks.lean ====
/- The pipeline's input blocks at a grid point, read at an index: the entries of the host's arrays they hold. -/
module

public import proofs.«01_k».proof.Proof.Head

@[expose] public section

set_option maxRecDepth 16384

noncomputable section

namespace Cert.KernelIdeal.Att

open Cert.KernelIdeal Cert.KernelIdeal.Gen Idealize.ShloMosaic Idealize.ShloMosaic.TcCoe Idealize.ShloMosaic.Pointwise Idealize.ShloMosaic.StableHlo Cert.Softmax

/-! ### The windows' places -/

abbrev pb (t : Fin grid0.N) : Fin 16 := grid0.coords t 0
abbrev pg (t : Fin grid0.N) : Fin 2 := grid0.coords t 1
abbrev pi (t : Fin grid0.N) : Fin 8 := grid0.coords t 2

theorem index_0 : ∀ t : Fin grid0.N, win0_0.index t = ![(pb t).val, (pg t).val, 0, (pi t).val] := by decide +kernel
theorem index_1 : ∀ t : Fin grid0.N, win0_1.index t = ![(pb t).val, 0, 0, 0] := by decide +kernel
theorem index_2 : ∀ t : Fin grid0.N, win0_2.index t = ![(pb t).val, 0, (pg t).val, 0] := by decide +kernel
theorem index_3 : ∀ t : Fin grid0.N, win0_3.index t = ![(pb t).val, (pi t).val, (pg t).val] := by decide +kernel

section

variable (m : (ℓ : Loc nD τ sig) → Buf (Elt Ideal) ℓ) (c : Dev nD) (t : Fin grid0.N)

theorem iblk_0 (h : Fin 4) (l : Fin 128) (r : Fin 512) :
    iblk m c 0 t (ix4 0 h l r)
      = V m c main_v12 (ix4 (pb t) (⟨4 * (pg t).val + h.val, by omega⟩ : Fin 8) l (⟨512 * (pi t).val + r.val, by omega⟩ : Fin 4096)) := by
  blk_ext [iblk, index_0 t]

theorem iblk_1 (j : Fin 8) (s : Fin 512) (l : Fin 128) :
    iblk m c 1 t (ix4 0 j s l) = V m c main_v14 (ix4 (pb t) j s l) := by
  blk_ext [iblk, index_1 t]

theorem iblk_2 (j : Fin 8) (e : Fin 80) (s : Fin 512) :
    iblk m c 2 t (ix4 0 j e s)
      = V m c main_v21 (ix4 (pb t) j (⟨80 * (pg t).val + e.val, by omega⟩ : Fin 160) s) := by
  blk_ext [iblk, index_2 t]

end

end Cert.KernelIdeal.Att
-- ==== Proof.RefRead.lean ====
/-
  The reference read at an index: a softmax-weighted sum of the values, its scores the real numbers the queries and the
  keys give.
-/
module

public import proofs.«01_k».proof.Proof.Gen.ReferenceIdeal.Read
public import proofs.«01_k».proof.Proof.Softmax
public import Idealize.ShloMosaic.Lib.Pointwise
public import Idealize.ShloMosaic.Lib.KernelVsHost

@[expose] public section

set_option maxRecDepth 16384

noncomputable section

namespace Cert.ReferenceIdeal.Att

open Cert.ReferenceIdeal Cert.ReferenceIdeal.Gen Cert.ReferenceIdeal.Read Idealize.ShloMosaic Idealize.ShloMosaic.Pointwise
open Cert.Softmax

/-- A query head's number: its group's key head and its place in the group. -/
abbrev hd (g : Fin 2) (h : Fin 4) : Fin 8 := ⟨4 * g.val + h.val, by omega⟩
/-- A result column: its group, its head in the group and its lane. -/
abbrev col (g : Fin 2) (h : Fin 4) (d : Fin 64) : Fin 512 := ⟨256 * g.val + (64 * h.val + d.val), by omega⟩

/-- The score of query `t` of head `(g, h)` and key `s`, in real numbers. -/
def score (qr : S16x4096x8x64.Idx → ℝ) (kr : S16x4096x2x64.Idx → ℝ) (b : Fin 16) (g : Fin 2) (h : Fin 4) (t s : Fin 4096) : ℝ :=
  (∑ d : Fin 64, kr (ix4 b s g d) * qr (ix4 b t (hd g h) d)) * (1 / 8)

theorem ofBits_eighth : Ideal.ofBits .f32 0x3E000000#32 = ((1 / 8 : ℝ) : EReal) := by
  simp [Ideal.ofBits, Ideal.ieee, -EReal.coe_mul]; norm_num
theorem ofBits_negInf : Ideal.ofBits .f32 0xFF800000#32 = ⊥ := by simp [Ideal.ofBits, Ideal.ieee]

section

variable (q : (⟨S16x4096x8x64, .f32⟩ : BufTy).Contents (Elt Ideal)) (k v : (⟨S16x4096x2x64, .f32⟩ : BufTy).Contents (Elt Ideal))
variable (qr : S16x4096x8x64.Idx → ℝ) (kr : S16x4096x2x64.Idx → ℝ)
variable (hq : ∀ i, q i = (qr i : EReal)) (hk : ∀ i, k i = (kr i : EReal))

/-- Where the reshape of the queries reads: the head is the group's four and the place in it. -/
theorem idx_query (b : Fin 16) (g : Fin 2) (h : Fin 4) (t s : Fin 4096) (d : Fin 64) :
    idx_main_v0 (ridx_main_v1 (idx_main_v2 (ix5 b g h t s)) d) = ix4 b t (hd g h) d := by
  funext a
  match a with
  | ⟨0, _⟩ =>
    refine Fin.ext ?_
    show ((((b.val * 4096 + t.val) * 2 + g.val) * 4 + h.val) * 64 + d.val) / 2097152 = b.val
    omega
  | ⟨1, _⟩ =>
    refine Fin.ext ?_
    show ((((b.val * 4096 + t.val) * 2 + g.val) * 4 + h.val) * 64 + d.val) / 512 % 4096 = t.val
    omega
  | ⟨2, _⟩ =>
    refine Fin.ext ?_
    show ((((b.val * 4096 + t.val) * 2 + g.val) * 4 + h.val) * 64 + d.val) / 64 % 8 = 4 * g.val + h.val
    omega
  | ⟨3, _⟩ =>
    refine Fin.ext ?_
    show ((((b.val * 4096 + t.val) * 2 + g.val) * 4 + h.val) * 64 + d.val) % 64 = d.val
    omega

theorem idx_key (b : Fin 16) (g : Fin 2) (h : Fin 4) (t s : Fin 4096) (d : Fin 64) :
    lidx_main_v1 (idx_main_v2 (ix5 b g h t s)) d = ix4 b s g d := by
  funext a
  match a with
  | ⟨0, _⟩ => rfl
  | ⟨1, _⟩ => rfl
  | ⟨2, _⟩ => rfl
  | ⟨3, _⟩ => rfl

include hq hk in
/-- A scaled score. -/
theorem scores_read (b : Fin 16) (g : Fin 2) (h : Fin 4) (t s : Fin 4096) :
    val_main_v4 q k (ix5 b g h t s) = (score qr kr b g h t s : EReal) := by
  rw [val_main_v4_apply, val_main_v3_apply, val_main_cst_apply, val_main_v2_apply, val_main_v1_apply, score, EReal.coe_mul, coe_sum,
    ← ofBits_eighth]
  refine Ideal.mul_congr (Finset.sum_congr rfl fun d _ => ?_) rfl
  rw [val_main_v0_apply, hk, hq, idx_query, idx_key, ← EReal.coe_mul]

include hq hk in
theorem scores_real (i : S16x2x4x4096x4096.Idx) : ∃ r : ℝ, val_main_v4 q k i = (r : EReal) := by
  rw [eq_ix5 i]
  exact ⟨_, scores_read q k qr kr hq hk _ _ _ _ _⟩

/-- A row's maximum, folded from `-∞` over a nonempty axis of reals, is a real. -/
theorem reduceMax_real {s t : Shape} {a : Fin s.rank} (x : s.Idx → EReal) (hx : ∀ i, ∃ r : ℝ, x i = (r : EReal))
    (h : s.Reduces [a] t) (hn : 0 < s.size a) (j : t.Idx) :
    ∃ M : ℝ, ((Finset.univ : Finset (Fin (s.size a))).fold max ⊥ (x ∘ h.lift j)) = (M : EReal) := by
  haveI : Nonempty (Fin (s.size a)) := ⟨⟨0, hn⟩⟩
  obtain ⟨i, _, hi⟩ := Finset.exists_mem_eq_sup Finset.univ Finset.univ_nonempty (x ∘ h.lift j)
  obtain ⟨r, hr⟩ := hx (h.lift j i)
  exact ⟨r, hi.trans hr⟩

/-- So is the host's maximum over one axis, taken once more with `-∞`. -/
theorem hostMax_real {s t u : Shape} {a : Fin s.rank} (x : FVec Ideal s .f32) (hx : ∀ i, ∃ r : ℝ, x i = (r : EReal))
    (h : s.ReducesTo [a] t) (hu : 0 < u.numel) (h' : s.Reduces [a] t) (hn : 0 < s.size a) (j : t.Idx) :
    ∃ M : ℝ, FloatOps.maximumf (FloatOps.ofBits (F := Ideal) .f32 0xFF800000#32)
      (Host.reduce FloatOps.maximumf x (constant u .f32 0xFF800000#32) h hu j) = (M : EReal) := by
  rw [Host.reduce_eq_fold_single FloatOps.maximumf x (constant u .f32 0xFF800000#32) h h' hu j]
  obtain ⟨M, hM⟩ := reduceMax_real x hx h' hn j
  refine ⟨M, ?_⟩
  show max (Ideal.ofBits .f32 0xFF800000#32) (Finset.fold max (Ideal.ofBits .f32 0xFF800000#32) _ _) = _
  rw [ofBits_negInf, hM]
  exact max_eq_right bot_le

include hq hk in
/-- The row's maximum is a real. -/
theorem max_read (j : S16x2x4x4096.Idx) : ∃ M : ℝ, val_main_v7 q k j = (M : EReal) := by
  have hx := scores_real q k qr kr hq hk
  rw [val_main_v7_apply, val_main_v6_apply, val_main_cst_1_apply]
  unfold val_main_v5 val_main_cst_0
  generalize val_main_v4 q k = y at hx ⊢
  exact hostMax_real y hx reducesTo_S16x2x4x4096x4096_S16x2x4x4096_d4 h_S_ (by decide) (by decide) j

include hq hk in
/-- An exponential. -/
theorem exp_read (b : Fin 16) (g : Fin 2) (h : Fin 4) (t s : Fin 4096) (M : ℝ) (hM : val_main_v7 q k (ix4 b g h t) = (M : EReal)) :
    val_main_v11 q k (ix5 b g h t s) = Ideal.exp ((score qr kr b g h t s : EReal) - (M : EReal)) := by
  have hi : idx_main_v8 (idx_main_v9 (ix5 b g h t s)) = ix4 b g h t := by
    funext a
    match a with
    | ⟨0, _⟩ => rfl
    | ⟨1, _⟩ => rfl
    | ⟨2, _⟩ => rfl
    | ⟨3, _⟩ => rfl
  rw [val_main_v11_apply, val_main_v10_apply, scores_read q k qr kr hq hk, val_main_v9_apply, val_main_v8_apply, hi, hM]
  rfl

include hq hk in
/-- A weight: an exponential over its row's sum. -/
theorem weight_read (b : Fin 16) (g : Fin 2) (h : Fin 4) (t s : Fin 4096) (M : ℝ) (hM : val_main_v7 q k (ix4 b g h t) = (M : EReal)) :
    val_main_v15 q k (ix5 b g h t s)
      = Ideal.div (Ideal.exp ((score qr kr b g h t s : EReal) - (M : EReal)))
          (∑ s', Ideal.exp ((score qr kr b g h t s' : EReal) - (M : EReal))) := by
  have hi : ∀ s', idx_main_v12 (idx_main_v13 (idx_main_v14 (ix5 b g h t s))) s' = ix5 b g h t s' := fun s' => by
    funext a
    match a with
    | ⟨0, _⟩ => rfl
    | ⟨1, _⟩ => rfl
    | ⟨2, _⟩ => rfl
    | ⟨3, _⟩ => rfl
    | ⟨4, _⟩ => rfl
  rw [val_main_v15_apply, val_main_v14_apply, val_main_v13_apply, val_main_v12_apply, exp_read q k qr kr hq hk b g h t s M hM]
  simp only [hi, exp_read q k qr kr hq hk b g h t _ M hM, val_main_cst_2_apply]
  show Ideal.div _ (Ideal.ofBits .f32 0x00000000#32 + _) = _
  rw [Ideal.ofBits_zero_f32, zero_add]

include hq hk in
/-- THE RESULT: the softmax-weighted sum of the values. -/
theorem ref_read (b : Fin 16) (g : Fin 2) (h : Fin 4) (t : Fin 4096) (d : Fin 64) :
    val_main_v19 q k v (ix3 b t (col g h d))
      = attn (fun s => score qr kr b g h t s) (fun s => v (ix4 b s g d)) := by
  obtain ⟨M, hM⟩ := max_read q k qr kr hq hk (ix4 b g h t)
  have hi : idx_main_v17 (idx_main_v18 (ix3 b t (col g h d))) = ix5 b g d h t := by
    funext a
    match a with
    | ⟨0, _⟩ =>
      refine Fin.ext ?_
      show ((b.val * 4096 + t.val) * 512 + (256 * g.val + (64 * h.val + d.val))) / 2097152 = b.val
      omega
    | ⟨1, _⟩ =>
      refine Fin.ext ?_
      show ((b.val * 4096 + t.val) * 512 + (256 * g.val + (64 * h.val + d.val))) / 256 % 2 = g.val
      omega
    | ⟨2, _⟩ =>
      refine Fin.ext ?_
      show ((b.val * 4096 + t.val) * 512 + (256 * g.val + (64 * h.val + d.val))) % 64 = d.val
      omega
    | ⟨3, _⟩ =>
      refine Fin.ext ?_
      show ((b.val * 4096 + t.val) * 512 + (256 * g.val + (64 * h.val + d.val))) / 64 % 4 = h.val
      omega
    | ⟨4, _⟩ =>
      refine Fin.ext ?_
      show ((b.val * 4096 + t.val) * 512 + (256 * g.val + (64 * h.val + d.val))) / 512 % 4096 = t.val
      omega
  have hl : ∀ s, lidx_main_v16 (ix5 b g d h t) s = ix4 b s g d := fun s => by
    funext a
    match a with
    | ⟨0, _⟩ => rfl
    | ⟨1, _⟩ => rfl
    | ⟨2, _⟩ => rfl
    | ⟨3, _⟩ => rfl
  have hr : ∀ s, ridx_main_v16 (ix5 b g d h t) s = ix5 b g h t s := fun s => by
    funext a
    match a with
    | ⟨0, _⟩ => rfl
    | ⟨1, _⟩ => rfl
    | ⟨2, _⟩ => rfl
    | ⟨3, _⟩ => rfl
    | ⟨4, _⟩ => rfl
  rw [← plain_eq _ _ M, val_main_v19_apply]
  show val_main_v18 q k v (ix3 b t (col g h d)) = _
  rw [val_main_v18_apply, val_main_v17_apply, hi, val_main_v16_apply]
  refine Finset.sum_congr rfl fun s _ => ?_
  rw [hl, hr, weight_read q k qr kr hq hk b g h t s M hM]

end

end Cert.ReferenceIdeal.Att
-- ==== Proof.Value.lean ====
/-
  The kernel's RESULT ARRAY: each grid point's block is the reference's result there, and the blocks tile the array.
-/
module

public import proofs.«01_k».proof.Proof.Blocks
public import proofs.«01_k».proof.Proof.RefRead

@[expose] public section

set_option maxRecDepth 16384

noncomputable section

namespace Cert.KernelIdeal.Att

open Cert.KernelIdeal Cert.KernelIdeal.Gen Idealize.ShloMosaic Idealize.ShloMosaic.TcCoe Idealize.ShloMosaic.Pointwise Idealize.ShloMosaic.StableHlo Cert.Softmax
open Cert.ReferenceIdeal.Att (hd col score ref_read)

/-- A key's place from its chunk and its place there. -/
def keyEquiv : Fin 8 × Fin 512 ≃ Fin 4096 := finProdFinEquiv (m := 8) (n := 512)

theorem keyEquiv_apply (i : Fin 8 × Fin 512) : keyEquiv i = (⟨512 * i.1.val + i.2.val, by omega⟩ : Fin 4096) :=
  Fin.ext (show i.2.val + 512 * i.1.val = 512 * i.1.val + i.2.val by omega)

section

variable (m : (ℓ : Loc nD τ sig) → Buf (Elt Ideal) ℓ) (c : Dev nD)

abbrev qm : FVec Ideal S16x4096x8x64 .f32 := m ((c : Thread nD τ).loc main_arg0)
abbrev km : FVec Ideal S16x4096x2x64 .f32 := m ((c : Thread nD τ).loc main_arg1)
abbrev vm : FVec Ideal S16x4096x2x64 .f32 := m ((c : Thread nD τ).loc main_arg2)

/-- The result array. -/
abbrev result : FVec Ideal S16x4096x512 .bf16 :=
  Cert.ReferenceIdeal.Read.val_main_v19 (F := Ideal) (qm m c) (km m c) (vm m c)

variable (qr : S16x4096x8x64.Idx → ℝ) (kr : S16x4096x2x64.Idx → ℝ)
  (hq : ∀ i, qm m c i = (qr i : EReal)) (hk : ∀ i, km m c i = (kr i : EReal))

include hq hk in
theorem blk_read (t : Fin grid0.N) (h : Fin 4) (r : Fin 512) (d : Fin 64) :
    blkOut (iblk m c 0 t) (iblk m c 1 t) (iblk m c 2 t) (ix3 0 r (⟨64 * h.val + d.val, by omega⟩ : Fin 256))
      = result m c (ix3 (pb t) (⟨512 * (pi t).val + r.val, by omega⟩ : Fin 4096) (col (pg t) h d)) := by
  refine (blkOut_read _ _ _ h r (pg t)
    (fun j s g' d => kr (ix4 (pb t) (⟨512 * j.val + s.val, by omega⟩ : Fin 4096) g' d))
    (fun d => qr (ix4 (pb t) (⟨512 * (pi t).val + r.val, by omega⟩ : Fin 4096) (hd (pg t) h) d))
    (fun j s g' d => ?_) (fun g' d => ?_)
    (fun j s d => vm m c (ix4 (pb t) (⟨512 * j.val + s.val, by omega⟩ : Fin 4096) (pg t) d))
    (fun j s d => ?_) (fun j s => ?_) d).trans ?_
  · refine (iblk_1 m c t j s _).trans ?_
    rw [V_k]
    exact (hostK_apply _ _ _ _ _ _).trans (hk _)
  · refine (iblk_0 m c t h _ r).trans ?_
    rw [V_q]
    refine (hostQ_apply _ _ _ _ _ _ _).trans ?_
    exact congrArg (fun a : EReal => if g' = pg t then a * (sc : EReal) else 0) (hq _)
  · refine (iblk_2 m c t j _ s).trans ?_
    rw [V_v]
    exact (hostV_row _ _ _ _ _ _).trans (hostV_apply _ _ _ _ _ _)
  · refine (iblk_2 m c t j _ s).trans ?_
    rw [V_v]
    exact (hostV_row _ _ _ _ _ _).trans (hostV_one _ _ _ _ _)
  · refine Eq.trans ?_ (ref_read (qm m c) (km m c) (vm m c) qr kr hq hk (pb t) (pg t) h _ d).symm
    refine Eq.trans ?_ (attn_equiv keyEquiv _ _)
    simp only [keyEquiv_apply]
    rfl

include hq hk in
/-- THE RESULT ARRAY after the run. -/
theorem final : (dats m 0 c).arrAt 3 cfg0.N = result m c := by
  refine (dats m 0 c).arrAt_eq_of_covers 3 (result m c) (by decide +kernel) fun t hf y => ?_
  rw [after_3]
  obtain ⟨r, h, d, rfl⟩ : ∃ (r : Fin 512) (h : Fin 4) (d : Fin 64), y = ix3 0 r (⟨64 * h.val + d.val, by omega⟩ : Fin 256) := by
    have h2 : (y 2).val < 256 := (y 2).isLt
    refine ⟨y 1, ⟨(y 2).val / 64, by omega⟩, ⟨(y 2).val % 64, by omega⟩, funext fun a => ?_⟩
    match a with
    | ⟨0, _⟩ => exact Fin.ext (by have h0 : (y 0).val < 1 := (y 0).isLt; show (y 0).val = 0; omega)
    | ⟨1, _⟩ => rfl
    | ⟨2, _⟩ => exact Fin.ext (show (y 2).val = 64 * ((y 2).val / 64) + (y 2).val % 64 by omega)
  refine (blk_read m c qr kr hq hk t h r d).trans ?_
  blk_ext [index_3 t]

end

end Cert.KernelIdeal.Att
-- ==== Proof.Same.lean ====
/- The kernel's frame, from the run of its idealization: the two programs have one text, so their tables of bodies are equal. -/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.SL.Sem

section

local instance : Cert.Kernel.Facts := Cert.Kernel.Gen.facts

/-- The region's bodies are the same. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

theorem defs_eq : Cert.Kernel.defs (F := Bits) = Cert.KernelIdeal.defs (F := Bits) :=
  congrArg (Pipeline.defs (Cert.KernelIdeal.pcfgs (F := Bits))) bodies_eq

theorem main_eq : Cert.Kernel.main (F := Bits) = Cert.KernelIdeal.main (F := Bits) := rfl

end

/-- The kernel's frame. -/
theorem frame_kernel : Cert.quiescent_Kernel (hKernel := Cert.Kernel.Gen.facts) := fun m ρ _ => by
  rw [defs_eq, main_eq]
  exact Cert.KernelIdeal.Att.frame (F := Bits) m ρ

end Cert.Proof

end
-- ==== Proof.Finite.lean ====
/- The precondition read back: where it holds, every query and every key is a real number. -/
module

public import proofs.«01_k».proof.Proof.Gen.Pre_finite
public import Idealize.ShloMosaic.Lib.ReduceAll
public import Idealize.ShloMosaic.Lib.Pointwise
public import Idealize.ShloMosaic.Lib.IdealHost

@[expose] public section

set_option maxRecDepth 16384

noncomputable section

namespace Cert.Pre_finite

open Idealize.ShloMosaic

theorem ofBits_inf : Ideal.ofBits .f32 0x7F800000#32 = ⊤ := by simp [Ideal.ofBits, Ideal.ieee]

/-- An extended real whose absolute value is under infinity is a real. -/
theorem real_of_abs_lt (x : EReal) (h : max x (-x) < ⊤) : ∃ r : ℝ, x = (r : EReal) := by
  induction x with
  | bot => simp at h
  | top => simp at h
  | coe r => exact ⟨r, rfl⟩

theorem and_one (a b : BitVec 1) (h : a &&& b = 1#1) : a = 1#1 ∧ b = 1#1 := by
  revert a b; decide

variable [Facts]

theorem reals (q : FVec Ideal S16x4096x8x64 .f32) (k v : FVec Ideal S16x4096x2x64 .f32)
    (h : fn (F := Ideal) q k v = fun _ => 1#1) :
    (∃ qr : S16x4096x8x64.Idx → ℝ, ∀ i, q i = (qr i : EReal)) ∧ ∃ kr : S16x4096x2x64.Idx → ℝ, ∀ i, k i = (kr i : EReal) := by
  have h0 := congrFun h (fun a => a.elim0)
  dsimp only [fn] at h0
  obtain ⟨hq, hk⟩ := and_one _ _ h0
  have : Subsingleton S_.Idx := ⟨fun a b => funext fun x => x.elim0⟩
  constructor
  · have e : ∀ i, ∃ r : ℝ, q i = (r : EReal) := fun i => by
      have hi := Host.reduce_andi_all _ _ _ _ _ hq i
      have hl := (Ideal.cmp_olt_eq_one _ _).mp hi
      refine real_of_abs_lt _ (lt_of_lt_of_eq hl ofBits_inf)
    choose qr hqr using e
    exact ⟨qr, hqr⟩
  · have e : ∀ i, ∃ r : ℝ, k i = (r : EReal) := fun i => by
      have hi := Host.reduce_andi_all _ _ _ _ _ hk i
      have hl := (Ideal.cmp_olt_eq_one _ _).mp hi
      refine real_of_abs_lt _ (lt_of_lt_of_eq hl ofBits_inf)
    choose kr hkr using e
    exact ⟨kr, hkr⟩

end Cert.Pre_finite
-- ==== Proof.Same2.lean ====
/- The input projection's frame, from the run of its idealization: the two programs have one text, so their tables of bodies are equal. -/
module

public import proofs.«01_k».proof.Defs
public import proofs.«01_k».proof.Proof.Gen.Kernel2
public import proofs.«01_k».proof.Proof.Gen.Kernel2Ideal.Frame

@[expose] public section

set_option maxRecDepth 16384

noncomputable section

namespace Cert.Proof

open Idealize.ShloMosaic Idealize.SL.Sem

section

local instance kernel2Facts : Cert.Kernel2.Facts := Cert.Kernel2.Gen.facts

/-- The region's bodies are the same. -/
theorem bodies_eq₂ : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

theorem defs_eq₂ : Cert.Kernel2.defs (F := Bits) = Cert.Kernel2Ideal.defs (F := Bits) :=
  congrArg (Pipeline.defs (Cert.Kernel2Ideal.pcfgs (F := Bits))) bodies_eq₂

theorem main_eq₂ : Cert.Kernel2.main (F := Bits) = Cert.Kernel2Ideal.main (F := Bits) := rfl

end

/-- The kernel's frame. -/
theorem frame_kernel2 : Cert.quiescent_Kernel2 (hKernel2 := Cert.Kernel2.Gen.facts) := fun m ρ _ => by
  rw [defs_eq₂, main_eq₂]
  exact Cert.Kernel2Ideal.Gen.frame (F := Bits) m ρ

end Cert.Proof

end
-- ==== Proof.InPay.lean ====
/-
  The input projection's stored chunks, read at an index at the extended reals: a row of the modulated tokens times a
  column of the weights, passed through the chunk's activation.
-/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Proj

open Cert.Kernel2Ideal Cert.Kernel2Ideal.Gen Idealize.ShloMosaic Idealize.ShloMosaic.Pointwise

/-- A row of the left array times a column of the right one. -/
abbrev dotE (h : FVec Ideal S512x1024 .bf16) (w : Vec Ideal S1x1024x512 .bf16) (r n : Fin 512) : EReal :=
  ∑ k : Fin 1024, (h (ix2 r k) * w (ix3 0 k n) : EReal)

/-- The gelu of the second recurrent column block, as the kernel writes it. -/
def geluE (y : EReal) : EReal :=
  (Ideal.ofBits .f32 0x3F000000#32 * y)
    * (1 + Ideal.tanh (Ideal.ofBits .f32 0x3F4C422A#32 * (y + Ideal.ofBits .f32 0x3D372713#32 * ((y * y) * y))))

/-- The silu of the first and last column blocks of the scan. -/
def siluE (y : EReal) : EReal := y * Ideal.div 1 (1 + Ideal.exp (0 - y))

/-- The modulated tokens. -/
theorem mod_apply (x1 : Vec Ideal S1x6x1024 .f32) (x0 : Vec Ideal S1x512x1024 .f32) (r : Fin 512) (k : Fin 1024) :
    k0_pay4 x1 x0 (ix2 r k) = (x0 (ix3 0 r k) : EReal) * (1 + x1 (ix3 0 1 k)) + x1 (ix3 0 0 k) := by
  pointwise [k0_pay4]

theorem plain_apply (h : FVec Ideal S512x1024 .bf16) (w : Vec Ideal S1x1024x512 .bf16) (r n : Fin 512) :
    k0_pay1 h w (ix3 0 r n) = dotE h w r n := by
  pointwise [k0_pay1]

theorem gelu_apply (h : FVec Ideal S512x1024 .bf16) (w : Vec Ideal S1x1024x512 .bf16) (r n : Fin 512) :
    k0_pay9 h w (ix3 0 r n) = geluE (dotE h w r n) := by
  pointwise [k0_pay9, geluE]

theorem silu_apply (h : FVec Ideal S512x1024 .bf16) (w : Vec Ideal S1x1024x512 .bf16) (r n : Fin 512) :
    k0_pay11 (k0_pay10 h w) (ix3 0 r n) = siluE (dotE h w r n) := by
  pointwise [k0_pay11, k0_pay10, siluE]

/-- The narrow chunk (the keys' and values' columns). -/
theorem narrow_apply (x1 : Vec Ideal S1x6x1024 .f32) (x0 : Vec Ideal S1x512x1024 .f32) (w : Vec Ideal S1x1024x256 .bf16) (r : Fin 512) (n : Fin 256) :
    k0_pay6 x1 x0 w (ix3 0 r n) = ∑ k : Fin 1024, (k0_pay4 x1 x0 (ix2 r k) * w (ix3 0 k n) : EReal) := by
  pointwise [k0_pay6]

end Cert.Kernel2Ideal.Proj
-- ==== Proof.InBody.lean ====
/-
  The input projection's body: each window's block after the body, read at an index at the extended reals. A block's
  stores are column chunks of one product under their activations.
-/
module

public import proofs.«01_k».proof.Proof.Gen.Kernel2Ideal.Frame
public import proofs.«01_k».proof.Proof.InPay
public import Idealize.ShloMosaic.Lib.Pipeline.ValueKit
public import Idealize.ShloMosaic.Lib.Pipeline.ReadBack

@[expose] public section

set_option maxRecDepth 16384

noncomputable section

namespace Cert.Kernel2Ideal.Proj

open Cert.Kernel2Ideal Cert.Kernel2Ideal.Gen Idealize.ShloMosaic Idealize.ShloMosaic.Pointwise

variable (x0 : Vec Ideal S1x512x1024 .f32) (x1 : Vec Ideal S1x6x1024 .f32) (x2 : Vec Ideal S1x1024x7424 .bf16)

/-- Row `r` of the modulated block times column `n` of the weights. -/
def prodE (r : Fin 512) (n : Fin 7424) : EReal :=
  ∑ k : Fin 1024, ((x0 (ix3 0 r k) : EReal) * (1 + x1 (ix3 0 1 k)) + x1 (ix3 0 0 k)) * (x2 (ix3 0 k n) : EReal)

/-- The modulated block as the body loads it. -/
abbrev modB : FVec Ideal S512x1024 .bf16 := k0_pay4 (View.ld x1 r0_0) (View.ld x0 r0_1)

theorem modB_apply (r : Fin 512) (k : Fin 1024) :
    modB x0 x1 (ix2 r k) = (x0 (ix3 0 r k) : EReal) * (1 + x1 (ix3 0 1 k)) + x1 (ix3 0 0 k) := by
  unfold modB
  rw [View.ld_unit_lit _ x1 (by decide), View.ld_unit_lit _ x0 (by decide)]
  exact mod_apply x1 x0 r k

/-- A window of the weights' columns. -/
theorem cols_apply (off : ℕ) (inb : ∀ a : Fin 3, (![0, 0, off] : Fin 3 → ℕ) a + S1x1024x512.size a ≤ S1x1024x7424.size a)
    (k : Fin 1024) (n : Fin 512) (c : Fin 7424) (hc : c.val = off + n.val) :
    (View.ld x2 (Rect.unit (s := S1x1024x7424) ![0, 0, off] S1x1024x512.size inb) : Vec Ideal S1x1024x512 .bf16) (ix3 0 k n) = x2 (ix3 0 k c) := by
  refine View.ld_unit_apply_of x2 ![0, 0, off] S1x1024x512.size inb (ix3 0 k n) (ix3 0 k c) fun a => ?_
  match a with
  | ⟨0, _⟩ => rfl
  | ⟨1, _⟩ => exact (Nat.zero_add _).symm
  | ⟨2, _⟩ => exact hc

/-- A chunk's product. -/
theorem dot_chunk (off : ℕ) (inb : ∀ a : Fin 3, (![0, 0, off] : Fin 3 → ℕ) a + S1x1024x512.size a ≤ S1x1024x7424.size a)
    (r n : Fin 512) (c : Fin 7424) (hc : c.val = off + n.val) :
    dotE (modB x0 x1) (View.ld x2 (Rect.unit (s := S1x1024x7424) ![0, 0, off] S1x1024x512.size inb)) r n = prodE x0 x1 x2 r c :=
  Finset.sum_congr rfl fun k _ => congrArg₂ (fun a b : EReal => a * b) (modB_apply x0 x1 r k) (cols_apply x2 off inb k n c hc)

/-- A stored chunk at an index of the block. -/
theorem chunk_of {N : ℕ} (act : Fin N → EReal → EReal) (off : ℕ)
    (inb : ∀ a : Fin 3, (![0, 0, off] : Fin 3 → ℕ) a + S1x1024x512.size a ≤ S1x1024x7424.size a) (q : Fin N) (P : Vec Ideal S1x512x512 .bf16)
    (h : ∀ r n : Fin 512, P (ix3 0 r n)
      = act q (dotE (modB x0 x1) (View.ld x2 (Rect.unit (s := S1x1024x7424) ![0, 0, off] S1x1024x512.size inb)) r n))
    (x : S1x512x512.Idx) (q' : Fin N) (r : Fin 512) (c : Fin 7424) (hq : q'.val = q.val) (hr : r.val = (x 1).val) (hc : c.val = off + (x 2).val) :
    P x = act q' (prodE x0 x1 x2 r c) := by
  obtain rfl : q' = q := Fin.ext hq
  obtain rfl : r = x 1 := Fin.ext hr
  have e : x = ix3 0 (x 1) (x 2) := funext fun a => by
    match a with
    | ⟨0, _⟩ => exact Fin.ext (by have h0 : (x 0).val < 1 := (x 0).isLt; show (x 0).val = 0; omega)
    | ⟨1, _⟩ => rfl
    | ⟨2, _⟩ => rfl
  have e2 := dot_chunk x0 x1 x2 off inb (x 1) (x 2) c hc
  refine (congrArg P e).trans ((h (x 1) (x 2)).trans ?_)
  exact congrArg (act q') e2

/-! ### The five blocks -/

/-- A block of the product's columns from `base` on, the activation chosen by the chunk of 512 columns. -/
def blkE {N : ℕ} (act : Fin N → EReal → EReal) (base : ℕ) (hb : base + 512 * N ≤ 7424) (r : Fin 512) (j : Fin (512 * N)) : EReal :=
  act (⟨j.val / 512, by omega⟩ : Fin N) (prodE x0 x1 x2 r (⟨base + j.val, by omega⟩ : Fin 7424))

/-- The queries' block. -/
def blk3 : Vec Ideal S1x512x512 .bf16 := fun y => blkE x0 x1 x2 (fun _ : Fin 1 => id) 0 (by decide) (y 1) (y 2)
/-- The keys' and values' block. -/
def blk4 : Vec Ideal S1x512x256 .bf16 := fun y =>
  prodE x0 x1 x2 (y 1) (⟨512 + (y 2).val, by have h : (y 2).val < 256 := (y 2).isLt; omega⟩ : Fin 7424)
/-- The recurrent block. -/
def blk5 : Vec Ideal S1x512x1024 .bf16 := fun y => blkE x0 x1 x2 (![id, geluE] : Fin 2 → EReal → EReal) 768 (by decide) (y 1) (y 2)
/-- The scan's block. -/
def blk6 : Vec Ideal S1x512x2560 .bf16 := fun y =>
  blkE x0 x1 x2 (![siluE, id, id, id, siluE] : Fin 5 → EReal → EReal) 1792 (by decide) (y 1) (y 2)
/-- The gates' block. -/
def blk7 : Vec Ideal S1x512x3072 .bf16 := fun y => blkE x0 x1 x2 (fun _ : Fin 6 => id) 4352 (by decide) (y 1) (y 2)

/-- A stored chunk is a piece of the block. -/
theorem piece_of {N : ℕ} (act : Fin N → EReal → EReal) (base : ℕ) (hb : base + 512 * N ≤ 7424) (q : Fin N) (off : ℕ) (ho : off = base + 512 * q.val)
    (inb : ∀ a : Fin 3, (![0, 0, off] : Fin 3 → ℕ) a + S1x1024x512.size a ≤ S1x1024x7424.size a) (P : Vec Ideal S1x512x512 .bf16)
    (h : ∀ r n : Fin 512, P (ix3 0 r n)
      = act q (dotE (modB x0 x1) (View.ld x2 (Rect.unit (s := S1x1024x7424) ![0, 0, off] S1x1024x512.size inb)) r n))
    (x : S1x512x512.Idx) (r : Fin 512) (j : Fin (512 * N)) (hr : r.val = 0 + 1 * (x 1).val) (hj : j.val = 512 * q.val + 1 * (x 2).val) :
    P x = blkE x0 x1 x2 act base hb r j := by
  have hx : (x 2).val < 512 := (x 2).isLt
  exact chunk_of x0 x1 x2 act off inb q P h x _ r _ (show j.val / 512 = q.val by omega) (by omega) (show base + j.val = off + (x 2).val by omega)

theorem out3_apply (y : S1x512x512.Idx) : out0_3 x0 x1 x2 y = blk3 x0 x1 x2 y := by
  refine View.canon_append_of_piecesOf (blk3 x0 x1 x2) [] [_] ⟨fun x => ?_, trivial⟩ y (cover0_3 _ y)
  exact piece_of x0 x1 x2 _ 0 _ 0 0 rfl inb_S1x1024x7424_S1x1024x512_0_0_0 _ (fun r n => plain_apply _ _ r n) x _ _ rfl rfl

theorem out4_apply (y : S1x512x256.Idx) : out0_4 x0 x1 x2 y = blk4 x0 x1 x2 y := by
  refine View.canon_append_of_piecesOf (blk4 x0 x1 x2) [] [_] ⟨fun x => ?_, trivial⟩ y (cover0_4 _ y)
  have e : x = ix3 0 (x 1) (x 2) := funext fun a => by
    match a with
    | ⟨0, _⟩ => exact Fin.ext (by have h0 : (x 0).val < 1 := (x 0).isLt; show (x 0).val = 0; omega)
    | ⟨1, _⟩ => rfl
    | ⟨2, _⟩ => rfl
  refine (congrArg (k0_pay6 (View.ld x1 r0_0) (View.ld x0 r0_1) (View.ld x2 r0_4)) e).trans ((narrow_apply _ _ _ (x 1) (x 2)).trans ?_)
  show _ = prodE x0 x1 x2 _ _
  unfold prodE
  refine Finset.sum_congr rfl fun k _ => congrArg₂ (fun a b : EReal => a * b) ((modB_apply x0 x1 (x 1) k).trans ?_) ?_
  · exact congrArg (fun r : Fin 512 => (x0 (ix3 0 r k) : EReal) * (1 + x1 (ix3 0 1 k)) + x1 (ix3 0 0 k))
      (Fin.ext (show (x 1).val = 0 + 1 * (x 1).val by omega))
  · refine View.ld_unit_apply_of x2 ![0, 0, 512] S1x1024x256.size inb_S1x1024x7424_S1x1024x256_0_0_512 (ix3 0 k (x 2)) (ix3 0 k _) fun a => ?_
    match a with
    | ⟨0, _⟩ => rfl
    | ⟨1, _⟩ => exact (Nat.zero_add _).symm
    | ⟨2, _⟩ => exact (show 512 + (0 + 1 * (x 2).val) = 512 + (x 2).val by omega)

theorem out5_apply (y : S1x512x1024.Idx) : out0_5 x0 x1 x2 y = blk5 x0 x1 x2 y := by
  refine View.canon_append_of_piecesOf (blk5 x0 x1 x2) [] [_, _] ⟨fun x => ?_, fun x => ?_, trivial⟩ y (cover0_5 _ _ y)
  · exact piece_of x0 x1 x2 _ 768 _ 1 1280 rfl inb_S1x1024x7424_S1x1024x512_0_0_1280 _ (fun r n => gelu_apply _ _ r n) x _ _ rfl rfl
  · exact piece_of x0 x1 x2 _ 768 _ 0 768 rfl inb_S1x1024x7424_S1x1024x512_0_0_768 _ (fun r n => plain_apply _ _ r n) x _ _ rfl rfl

theorem out6_apply (y : S1x512x2560.Idx) : out0_6 x0 x1 x2 y = blk6 x0 x1 x2 y := by
  refine View.canon_append_of_piecesOf (blk6 x0 x1 x2) [] [_, _, _, _, _] ⟨fun x => ?_, fun x => ?_, fun x => ?_, fun x => ?_, fun x => ?_, trivial⟩ y
    (cover0_6 _ _ _ _ _ y)
  · exact piece_of x0 x1 x2 _ 1792 _ 4 3840 rfl inb_S1x1024x7424_S1x1024x512_0_0_3840 _ (fun r n => silu_apply _ _ r n) x _ _ rfl rfl
  · exact piece_of x0 x1 x2 _ 1792 _ 3 3328 rfl inb_S1x1024x7424_S1x1024x512_0_0_3328 _ (fun r n => plain_apply _ _ r n) x _ _ rfl rfl
  · exact piece_of x0 x1 x2 _ 1792 _ 2 2816 rfl inb_S1x1024x7424_S1x1024x512_0_0_2816 _ (fun r n => plain_apply _ _ r n) x _ _ rfl rfl
  · exact piece_of x0 x1 x2 _ 1792 _ 1 2304 rfl inb_S1x1024x7424_S1x1024x512_0_0_2304 _ (fun r n => plain_apply _ _ r n) x _ _ rfl rfl
  · exact piece_of x0 x1 x2 _ 1792 _ 0 1792 rfl inb_S1x1024x7424_S1x1024x512_0_0_1792 _ (fun r n => silu_apply _ _ r n) x _ _ rfl rfl

theorem out7_apply (y : S1x512x3072.Idx) : out0_7 x0 x1 x2 y = blk7 x0 x1 x2 y := by
  refine View.canon_append_of_piecesOf (blk7 x0 x1 x2) [] [_, _, _, _, _, _]
    ⟨fun x => ?_, fun x => ?_, fun x => ?_, fun x => ?_, fun x => ?_, fun x => ?_, trivial⟩ y (cover0_7 _ _ _ _ _ _ y)
  · exact piece_of x0 x1 x2 _ 4352 _ 5 6912 rfl inb_S1x1024x7424_S1x1024x512_0_0_6912 _ (fun r n => plain_apply _ _ r n) x _ _ rfl rfl
  · exact piece_of x0 x1 x2 _ 4352 _ 4 6400 rfl inb_S1x1024x7424_S1x1024x512_0_0_6400 _ (fun r n => plain_apply _ _ r n) x _ _ rfl rfl
  · exact piece_of x0 x1 x2 _ 4352 _ 3 5888 rfl inb_S1x1024x7424_S1x1024x512_0_0_5888 _ (fun r n => plain_apply _ _ r n) x _ _ rfl rfl
  · exact piece_of x0 x1 x2 _ 4352 _ 2 5376 rfl inb_S1x1024x7424_S1x1024x512_0_0_5376 _ (fun r n => plain_apply _ _ r n) x _ _ rfl rfl
  · exact piece_of x0 x1 x2 _ 4352 _ 1 4864 rfl inb_S1x1024x7424_S1x1024x512_0_0_4864 _ (fun r n => plain_apply _ _ r n) x _ _ rfl rfl
  · exact piece_of x0 x1 x2 _ 4352 _ 0 4352 rfl inb_S1x1024x7424_S1x1024x512_0_0_4352 _ (fun r n => plain_apply _ _ r n) x _ _ rfl rfl

end Cert.Kernel2Ideal.Proj
-- ==== Proof.InRef.lean ====
/-
  The plain input projection read at an index at the extended reals: the modulated token times a column of the layer's
  weights, and the five results as columns of that product under their activations.
-/
module

public import proofs.«01_k».proof.Proof.Gen.Reference2Ideal.Read
public import proofs.«01_k».proof.Proof.InPay

@[expose] public section

set_option maxRecDepth 16384

noncomputable section

namespace Cert.Reference2Ideal.Proj

open Cert.Reference2Ideal Cert.Reference2Ideal.Gen Cert.Reference2Ideal.Read Idealize.ShloMosaic Idealize.ShloMosaic.Pointwise
open Cert.Kernel2Ideal.Proj (geluE siluE)

variable (x : FVec Ideal S16x4096x1024 .f32) (md : FVec Ideal S16x6144 .f32) (w : FVec Ideal S4x1024x7424 .f32)

/-- The modulated token. -/
def hE (b : Fin 16) (s : Fin 4096) (k : Fin 1024) : EReal :=
  (x (ix3 b s k) : EReal) * (1 + md (ix2 b (⟨1024 + k.val, by omega⟩ : Fin 6144))) + md (ix2 b (⟨k.val, by omega⟩ : Fin 6144))

/-- The product with the layer's weights. -/
def projE (b : Fin 16) (s : Fin 4096) (n : Fin 7424) : EReal :=
  ∑ k : Fin 1024, hE x md b s k * (w (ix3 1 k n) : EReal)

theorem v12_apply (b : Fin 16) (s : Fin 4096) (k : Fin 1024) : val_main_v12 (F := Ideal) x md (ix3 b s k) = hE x md b s k := by
  have h1 : Ideal.ofBits .f32 0x3F800000#32 = (1 : EReal) := by
    simp [Ideal.ofBits, Ideal.ieee, -EReal.coe_mul]; norm_num
  unfold hE
  rw [val_main_v12_apply, val_main_v10_apply, val_main_v9_apply, val_main_v11_apply, val_main_v8_apply, val_main_v7_apply,
    val_main_cst_apply, val_main_v1_apply, val_main_v2_apply, val_main_v0_apply, val_main_v0_apply]
  show (x (ix3 b s k) : EReal) * (Ideal.ofBits .f32 0x3F800000#32 + md _) + md _ = _
  rw [h1]
  refine congrArg₂ (fun a e : EReal => (x (ix3 b s k) : EReal) * (1 + a) + e) (congrArg md (funext fun a => ?_)) (congrArg md (funext fun a => ?_))
  · match a with
    | ⟨0, _⟩ => rfl
    | ⟨1, _⟩ => exact Fin.ext (by simp <;> omega)
  · match a with
    | ⟨0, _⟩ => rfl
    | ⟨1, _⟩ => exact Fin.ext (by simp <;> omega)

theorem v15_apply (b : Fin 16) (s : Fin 4096) (n : Fin 7424) : val_main_v15 (F := Ideal) x md w (ix3 b s n) = projE x md w b s n := by
  rw [val_main_v15_apply]
  unfold projE
  refine Finset.sum_congr rfl fun k _ => ?_
  refine congrArg₂ (fun a b : EReal => a * b) ?_ ?_
  · refine (congrArg (val_main_v12 (F := Ideal) x md) (?_ : _ = ix3 b s k)).trans (v12_apply x md b s k)
    funext a
    match a with
    | ⟨0, _⟩ => rfl
    | ⟨1, _⟩ => rfl
    | ⟨2, _⟩ => rfl
  · rw [val_main_v14_apply, val_main_v13_apply]
    refine congrArg w (funext fun a => ?_)
    match a with
    | ⟨0, _⟩ => rfl
    | ⟨1, _⟩ => exact Fin.ext (by simp <;> omega)
    | ⟨2, _⟩ => exact Fin.ext (by simp <;> omega)

/-- A column block of the product is the product at the shifted column. -/
theorem projE_of {N : ℕ} (o : ℕ) (b : Fin 16) (s : Fin 4096) (n : Fin N) (i : S16x4096x7424.Idx) (h : o + n.val < 7424)
    (h0 : (i 0).val = b.val) (h1 : (i 1).val = s.val) (h2 : (i 2).val = o + n.val) :
    val_main_v15 (F := Ideal) x md w i = projE x md w b s ⟨o + n.val, h⟩ := by
  refine (congrArg (val_main_v15 (F := Ideal) x md w) (?_ : i = ix3 b s ⟨o + n.val, h⟩)).trans (v15_apply x md w b s _)
  funext a
  match a with
  | ⟨0, _⟩ => exact Fin.ext h0
  | ⟨1, _⟩ => exact Fin.ext h1
  | ⟨2, _⟩ => exact Fin.ext h2

/-- The gelu as the reference writes it. -/
theorem gelu_ref (y : EReal) :
    y * (Ideal.ofBits .f32 0x3F000000#32
      * (1 + Ideal.tanh (Ideal.ofBits .f32 0x3F4C422A#32 * (y + Ideal.ofBits .f32 0x3D372713#32 * ((y * y) * y))))) = geluE y := by
  unfold geluE
  rw [← mul_assoc, mul_comm y]

/-- The silu as the reference writes it. -/
theorem silu_ref (y : EReal) : y * Ideal.div 1 (1 + Ideal.exp (-y)) = siluE y := by
  unfold siluE
  rw [zero_sub]

theorem one_bits : Ideal.ofBits .f32 0x3F800000#32 = (1 : EReal) := by
  simp [Ideal.ofBits, Ideal.ieee, -EReal.coe_mul]; norm_num

section

variable (b : Fin 16) (s : Fin 4096)

theorem v27_apply (n : Fin 512) : val_main_v27 (F := Ideal) x md w (ix3 b s n) = projE x md w b s ⟨0 + n.val, by omega⟩ := by
  rw [val_main_v27_apply, val_main_v16_apply]
  exact projE_of x md w 0 b s n _ _ rfl rfl (by simp <;> omega)

theorem v49_apply (n : Fin 3072) : val_main_v49 (F := Ideal) x md w (ix3 b s n) = projE x md w b s ⟨4352 + n.val, by omega⟩ := by
  rw [val_main_v49_apply, val_main_v26_apply]
  exact projE_of x md w 4352 b s n _ _ rfl rfl (by simp <;> omega)

/-- Two arrays side by side, at a column. -/
theorem cat2_256 (u v : FVec Ideal S16x4096x128 .f32) (q : Fin 2) (n : Fin 128) :
    concatenate S16x4096x256 2 [⟨S16x4096x128, u⟩, ⟨S16x4096x128, v⟩] concatenates_S16x4096x128_S16x4096x128_S16x4096x256_d2
      (ix3 b s (⟨128 * q.val + n.val, by omega⟩ : Fin 256)) = (![u, v] q) (ix3 b s n) := by
  fin_cases q <;> pointwise

theorem v29_apply (n : Fin 256) : val_main_v29 (F := Ideal) x md w (ix3 b s n) = projE x md w b s ⟨512 + n.val, by omega⟩ := by
  obtain ⟨q, e, rfl⟩ : ∃ (q : Fin 2) (e : Fin 128), n = ⟨128 * q.val + e.val, by omega⟩ :=
    ⟨⟨n.val / 128, by omega⟩, ⟨n.val % 128, by omega⟩, Fin.ext (show n.val = 128 * (n.val / 128) + n.val % 128 by omega)⟩
  rw [val_main_v29_apply]
  refine (cat2_256 b s _ _ q e).trans ?_
  fin_cases q
  · refine (val_main_v17_apply (F := Ideal) x md w _).trans ?_
    exact projE_of x md w 512 b s (⟨128 * 0 + e.val, by omega⟩ : Fin 256) _ _ rfl rfl (by simp <;> omega)
  · refine (val_main_v18_apply (F := Ideal) x md w _).trans ?_
    exact projE_of x md w 512 b s (⟨128 * 1 + e.val, by omega⟩ : Fin 256) _ _ rfl rfl (by simp <;> omega)

/-- Two arrays side by side, at a column. -/
theorem cat2_1024 (u v : FVec Ideal S16x4096x512 .f32) (q : Fin 2) (n : Fin 512) :
    concatenate S16x4096x1024 2 [⟨S16x4096x512, u⟩, ⟨S16x4096x512, v⟩] concatenates_S16x4096x512_S16x4096x512_S16x4096x1024_d2
      (ix3 b s (⟨512 * q.val + n.val, by omega⟩ : Fin 1024)) = (![u, v] q) (ix3 b s n) := by
  fin_cases q <;> pointwise

/-- Five arrays side by side, at a column. -/
theorem cat5 (u₀ u₁ u₂ u₃ u₄ : FVec Ideal S16x4096x512 .f32) (q : Fin 5) (n : Fin 512) :
    concatenate S16x4096x2560 2 [⟨S16x4096x512, u₀⟩, ⟨S16x4096x512, u₁⟩, ⟨S16x4096x512, u₂⟩, ⟨S16x4096x512, u₃⟩, ⟨S16x4096x512, u₄⟩]
        concatenates_S16x4096x512_S16x4096x512_S16x4096x512_S16x4096x512_S16x4096x512_S16x4096x2560_d2
      (ix3 b s (⟨512 * q.val + n.val, by omega⟩ : Fin 2560)) = (![u₀, u₁, u₂, u₃, u₄] q) (ix3 b s n) := by
  fin_cases q <;> pointwise
  all_goals
    repeat (first | rw [dif_pos (by omega)] | rw [dif_neg (by omega)])
    congr 2
    exact Fin.ext (by simp only []; omega)

/-- The gelu of the gate's columns. -/
theorem v42_apply (n : Fin 512) : val_main_v42 (F := Ideal) x md w (ix3 b s n) = geluE (projE x md w b s ⟨1280 + n.val, by omega⟩) := by
  have h : val_main_v20 (F := Ideal) x md w (ix3 b s n) = projE x md w b s ⟨1280 + n.val, by omega⟩ := by
    rw [val_main_v20_apply]
    exact projE_of x md w 1280 b s n _ _ rfl rfl (by simp <;> omega)
  rw [val_main_v42_apply, val_main_v41_apply, val_main_v40_apply, val_main_cst_3_apply, val_main_v39_apply, val_main_v38_apply,
    val_main_cst_2_apply, val_main_v37_apply, val_main_v36_apply, val_main_v35_apply, val_main_cst_1_apply, val_main_v34_apply,
    val_main_v33_apply, val_main_v32_apply, val_main_cst_0_apply, val_main_v31_apply, val_main_v30_apply, h, ← gelu_ref, ← one_bits]
  rfl

/-- The silu of the queries' columns. -/
theorem v45_apply (n : Fin 512) : val_main_v45 (F := Ideal) x md w (ix3 b s n) = siluE (projE x md w b s ⟨1792 + n.val, by omega⟩) := by
  have h : val_main_v21 (F := Ideal) x md w (ix3 b s n) = projE x md w b s ⟨1792 + n.val, by omega⟩ := by
    rw [val_main_v21_apply]
    exact projE_of x md w 1792 b s n _ _ rfl rfl (by simp <;> omega)
  rw [val_main_v45_apply, val_main_call0_v5_apply, val_main_call0_v4_apply, val_main_call0_cst_0_apply, val_main_call0_v3_apply,
    val_main_call0_v2_apply, val_main_call0_cst_apply, val_main_call0_v1_apply, val_main_call0_v0_apply, h, ← silu_ref, ← one_bits]
  rfl

/-- The silu of the output gate's columns. -/
theorem v46_apply (n : Fin 512) : val_main_v46 (F := Ideal) x md w (ix3 b s n) = siluE (projE x md w b s ⟨3840 + n.val, by omega⟩) := by
  have h : val_main_v25 (F := Ideal) x md w (ix3 b s n) = projE x md w b s ⟨3840 + n.val, by omega⟩ := by
    rw [val_main_v25_apply]
    exact projE_of x md w 3840 b s n _ _ rfl rfl (by simp <;> omega)
  rw [val_main_v46_apply, val_main_call1_v5_apply, val_main_call1_v4_apply, val_main_call1_cst_0_apply, val_main_call1_v3_apply,
    val_main_call1_v2_apply, val_main_call1_cst_apply, val_main_call1_v1_apply, val_main_call1_v0_apply, h, ← silu_ref, ← one_bits]
  rfl

/-- The recurrent block's columns: plain, then under the gelu. -/
theorem v44_apply (q : Fin 2) (n : Fin 512) : val_main_v44 (F := Ideal) x md w (ix3 b s (⟨512 * q.val + n.val, by omega⟩ : Fin 1024))
    = (![id, geluE] q) (projE x md w b s ⟨768 + (512 * q.val + n.val), by omega⟩) := by
  rw [val_main_v44_apply]
  refine (cat2_1024 b s _ _ q n).trans ?_
  fin_cases q
  · refine (val_main_v19_apply (F := Ideal) x md w _).trans ?_
    exact projE_of x md w 768 b s (⟨512 * 0 + n.val, by omega⟩ : Fin 1024) _ _ rfl rfl (by simp <;> omega)
  · refine (v42_apply x md w b s n).trans ?_
    exact congrArg (fun i => geluE (projE x md w b s i)) (Fin.ext (by simp <;> omega))

/-- The scan's columns: under the silu, three plain blocks, under the silu. -/
theorem v48_apply (q : Fin 5) (n : Fin 512) : val_main_v48 (F := Ideal) x md w (ix3 b s (⟨512 * q.val + n.val, by omega⟩ : Fin 2560))
    = (![siluE, id, id, id, siluE] q) (projE x md w b s ⟨1792 + (512 * q.val + n.val), by omega⟩) := by
  rw [val_main_v48_apply]
  refine (cat5 b s _ _ _ _ _ q n).trans ?_
  fin_cases q
  · refine (v45_apply x md w b s n).trans ?_
    exact congrArg (fun i => siluE (projE x md w b s i)) (Fin.ext (by simp <;> omega))
  · refine (val_main_v22_apply (F := Ideal) x md w _).trans ?_
    exact projE_of x md w 1792 b s (⟨512 * 1 + n.val, by omega⟩ : Fin 2560) _ _ rfl rfl (by simp <;> omega)
  · refine (val_main_v23_apply (F := Ideal) x md w _).trans ?_
    exact projE_of x md w 1792 b s (⟨512 * 2 + n.val, by omega⟩ : Fin 2560) _ _ rfl rfl (by simp <;> omega)
  · refine (val_main_v24_apply (F := Ideal) x md w _).trans ?_
    exact projE_of x md w 1792 b s (⟨512 * 3 + n.val, by omega⟩ : Fin 2560) _ _ rfl rfl (by simp <;> omega)
  · refine (v46_apply x md w b s n).trans ?_
    exact congrArg (fun i => siluE (projE x md w b s i)) (Fin.ext (by simp <;> omega))

end

end Cert.Reference2Ideal.Proj
-- ==== Proof.InBlocks.lean ====
/- The input projection's input blocks at a grid point, read at an index: the entries of the arguments they hold. -/
module

public import proofs.«01_k».proof.Proof.InBody
public import proofs.«01_k».proof.Proof.InRef
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Pointwise Idealize.ShloMosaic.StableHlo
open Cert.Reference2Ideal.Proj (hE projE)

/-- The batch entry and the token tile of a grid point. -/
abbrev pb (t : Fin grid0.N) : Fin 16 := grid0.coords t 0
abbrev pi (t : Fin grid0.N) : Fin 8 := grid0.coords t 1

theorem index_0 : ∀ t : Fin grid0.N, win0_0.index t = ![(pb t).val, (pi t).val, 0] := by decide +kernel
theorem index_1 : ∀ t : Fin grid0.N, win0_1.index t = ![(pb t).val, 0, 0] := by decide +kernel
theorem index_2 : ∀ t : Fin grid0.N, win0_2.index t = ![1, 0, 0] := by decide +kernel
theorem index_3 : ∀ t : Fin grid0.N, win0_3.index t = ![(pb t).val, (pi t).val, 0] := by decide +kernel
theorem index_4 : ∀ t : Fin grid0.N, win0_4.index t = ![(pb t).val, (pi t).val, 0] := by decide +kernel
theorem index_5 : ∀ t : Fin grid0.N, win0_5.index t = ![(pb t).val, (pi t).val, 0] := by decide +kernel
theorem index_6 : ∀ t : Fin grid0.N, win0_6.index t = ![(pb t).val, (pi t).val, 0] := by decide +kernel
theorem index_7 : ∀ t : Fin grid0.N, win0_7.index t = ![(pb t).val, (pi t).val, 0] := by decide +kernel

variable (m : (ℓ : Loc nD τ sig) → Buf (Elt Ideal) ℓ) (c : Dev nD) (t : Fin grid0.N)

abbrev xm : FVec Ideal S16x4096x1024 .f32 := m ((c : Thread nD τ).loc main_arg0)
abbrev dm : FVec Ideal S16x6144 .f32 := m ((c : Thread nD τ).loc main_arg1)
abbrev wm : FVec Ideal S4x1024x7424 .f32 := m ((c : Thread nD τ).loc main_arg2)

theorem V_mod : V m c main_v0 = shapeCast S16x6x1024 (dm m c) shapeCasts_S16x6144_S16x6x1024 := by
  unfold_abbrev_sides
  after_results
  rfl

theorem V_w : V m c main_v1 = (truncf .bf16 (wm m c) bitsLt_bf16_f32 : FVec Ideal S4x1024x7424 .bf16) := by
  unfold_abbrev_sides
  after_results

/-- The modulation vector's sixth `j`. -/
theorem mod_host (d : FVec Ideal S16x6144 .f32) (b : Fin 16) (j : Fin 6) (k : Fin 1024) :
    (shapeCast S16x6x1024 d shapeCasts_S16x6144_S16x6x1024 : FVec Ideal S16x6x1024 .f32) (ix3 b j k)
      = d (ix2 b (⟨1024 * j.val + k.val, by omega⟩ : Fin 6144)) := by
  refine shapeCast_apply d shapeCasts_S16x6144_S16x6x1024 _ (ix2 b (⟨1024 * j.val + k.val, by omega⟩ : Fin 6144)) ?_
  rw [Shape.rowMajor_val_two, Shape.rowMajor_val_three]
  show b.val * 6144 + (1024 * j.val + k.val) = (b.val * 6 + j.val) * 1024 + k.val
  omega

theorem iblk_0 (r : Fin 512) (k : Fin 1024) :
    iblk m c 0 t (ix3 0 r k) = xm m c (ix3 (pb t) (⟨512 * (pi t).val + r.val, by omega⟩ : Fin 4096) k) := by
  refine Eq.trans ?_ (congrFun (V_main_arg0 m c) _)
  blk_ext [iblk, index_0 t]

theorem iblk_1 (j : Fin 6) (k : Fin 1024) :
    iblk m c 1 t (ix3 0 j k) = dm m c (ix2 (pb t) (⟨1024 * j.val + k.val, by omega⟩ : Fin 6144)) := by
  refine Eq.trans ?_ ((congrFun (V_mod m c) (ix3 (pb t) j k)).trans (mod_host _ _ _ _))
  blk_ext [iblk, index_1 t]

theorem iblk_2 (k : Fin 1024) (n : Fin 7424) : iblk m c 2 t (ix3 0 k n) = wm m c (ix3 1 k n) := by
  refine Eq.trans ?_ (congrFun (V_w m c) (ix3 1 k n))
  blk_ext [iblk, index_2 t]

/-- A grid point's product is the reference's at its tokens. -/
theorem prod_read (r : Fin 512) (n : Fin 7424) :
    prodE (iblk m c 0 t) (iblk m c 1 t) (iblk m c 2 t) r n
      = projE (xm m c) (dm m c) (wm m c) (pb t) (⟨512 * (pi t).val + r.val, by omega⟩ : Fin 4096) n := by
  refine Finset.sum_congr rfl fun k _ => ?_
  refine congrArg₂ (fun a b : EReal => a * b) ?_ (iblk_2 m c t k n)
  unfold hE
  refine congrArg₂ (fun a b : EReal => a + b) (congrArg₂ (fun a b : EReal => a * (1 + b)) (iblk_0 m c t r k) ?_) ?_
  · exact (iblk_1 m c t 1 k).trans (congrArg (dm m c) (congrArg (ix2 (pb t)) (Fin.ext (by simp))))
  · exact (iblk_1 m c t 0 k).trans (congrArg (dm m c) (congrArg (ix2 (pb t)) (Fin.ext (by simp))))

end Cert.Kernel2Ideal.Proj
-- ==== Proof.InValue.lean ====
/-
  The input projection's RESULT ARRAYS: each grid point's blocks are the reference's results there, and the blocks tile
  the arrays.
-/
module

public import proofs.«01_k».proof.Proof.InBlocks

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Pointwise
open Cert.Reference2Ideal.Proj (projE v27_apply v29_apply v44_apply v48_apply v49_apply)
open Cert.Reference2Ideal.Read (val_main_v27 val_main_v29 val_main_v44 val_main_v48 val_main_v49)

variable (m : (ℓ : Loc nD τ sig) → Buf (Elt Ideal) ℓ) (c : Dev nD)

/-- An index of a block of 512 rows. -/
theorem blk_idx {N : ℕ} (y : Shape.Idx ⟨3, ![1, 512, N]⟩) : ∃ (r : Fin 512) (j : Fin N), y = ix3 0 r j :=
  ⟨y 1, y 2, funext fun a => by
    match a with
    | ⟨0, _⟩ => exact Fin.ext (by have h0 : (y 0).val < 1 := (y 0).isLt; show (y 0).val = 0; omega)
    | ⟨1, _⟩ => rfl
    | ⟨2, _⟩ => rfl⟩

/-- A column of a row of `N` chunks. -/
theorem chunk_idx {N : ℕ} (j : Fin (512 * N)) : ∃ (q : Fin N) (n : Fin 512) (h : 512 * q.val + n.val < 512 * N), j = ⟨512 * q.val + n.val, h⟩ :=
  ⟨⟨j.val / 512, by omega⟩, ⟨j.val % 512, by omega⟩, by show 512 * (j.val / 512) + j.val % 512 < _; omega,
    Fin.ext (show j.val = 512 * (j.val / 512) + j.val % 512 by omega)⟩

/-- A block's entry at a column of its chunk `q`, read in the arguments. -/
theorem blk_read {N : ℕ} (act : Fin N → EReal → EReal) (base : ℕ) (hb : base + 512 * N ≤ 7424) (t : Fin grid0.N) (r : Fin 512) (q : Fin N) (n : Fin 512)
    (h : 512 * q.val + n.val < 512 * N) :
    blkE (iblk m c 0 t) (iblk m c 1 t) (iblk m c 2 t) act base hb r ⟨512 * q.val + n.val, h⟩
      = act q (projE (xm m c) (dm m c) (wm m c) (pb t) (⟨512 * (pi t).val + r.val, by omega⟩ : Fin 4096) ⟨base + (512 * q.val + n.val), by omega⟩) := by
  unfold blkE
  rw [prod_read]
  refine congrArg (fun q' => act q' _) (Fin.ext ?_)
  show (512 * q.val + n.val) / 512 = q.val
  omega

/-- The queries. At a grid point's block. -/
theorem read_3 (t : Fin grid0.N) (r : Fin 512) (j : Fin 512) :
    out0_3 (iblk m c 0 t) (iblk m c 1 t) (iblk m c 2 t) (ix3 0 r j)
      = val_main_v27 (F := Ideal) (xm m c) (dm m c) (wm m c) (ix3 (pb t) (⟨512 * (pi t).val + r.val, by omega⟩ : Fin 4096) j) := by
  exact (out3_apply (iblk m c 0 t) (iblk m c 1 t) (iblk m c 2 t) (ix3 0 r j)).trans
    ((prod_read m c t r (⟨0 + j.val, by omega⟩ : Fin 7424)).trans (v27_apply (xm m c) (dm m c) (wm m c) (pb t) _ j).symm)

/-- The queries. The array after the run. -/
theorem final_3 : (dats m 0 c).arrAt 3 cfg0.N = val_main_v27 (F := Ideal) (xm m c) (dm m c) (wm m c) := by
  refine (dats m 0 c).arrAt_eq_of_covers 3 (val_main_v27 (F := Ideal) (xm m c) (dm m c) (wm m c)) (by decide +kernel) fun t hf y => ?_
  rw [after0_3]
  obtain ⟨r, j, rfl⟩ := blk_idx (N := 512) y
  blk_simp
  refine (read_3 m c t r j).trans ?_
  blk_ext [index_3 t]

/-- The keys and values. At a grid point's block. -/
theorem read_4 (t : Fin grid0.N) (r : Fin 512) (j : Fin 256) :
    out0_4 (iblk m c 0 t) (iblk m c 1 t) (iblk m c 2 t) (ix3 0 r j)
      = val_main_v29 (F := Ideal) (xm m c) (dm m c) (wm m c) (ix3 (pb t) (⟨512 * (pi t).val + r.val, by omega⟩ : Fin 4096) j) := by
  exact (out4_apply (iblk m c 0 t) (iblk m c 1 t) (iblk m c 2 t) (ix3 0 r j)).trans
    ((prod_read m c t r (⟨512 + j.val, by omega⟩ : Fin 7424)).trans (v29_apply (xm m c) (dm m c) (wm m c) (pb t) _ j).symm)

/-- The keys and values. The array after the run. -/
theorem final_4 : (dats m 0 c).arrAt 4 cfg0.N = val_main_v29 (F := Ideal) (xm m c) (dm m c) (wm m c) := by
  refine (dats m 0 c).arrAt_eq_of_covers 4 (val_main_v29 (F := Ideal) (xm m c) (dm m c) (wm m c)) (by decide +kernel) fun t hf y => ?_
  rw [after0_4]
  obtain ⟨r, j, rfl⟩ := blk_idx (N := 256) y
  blk_simp
  refine (read_4 m c t r j).trans ?_
  blk_ext [index_4 t]

/-- The recurrent block. At a grid point's block. -/
theorem read_5 (t : Fin grid0.N) (r : Fin 512) (j : Fin 1024) :
    out0_5 (iblk m c 0 t) (iblk m c 1 t) (iblk m c 2 t) (ix3 0 r j)
      = val_main_v44 (F := Ideal) (xm m c) (dm m c) (wm m c) (ix3 (pb t) (⟨512 * (pi t).val + r.val, by omega⟩ : Fin 4096) j) := by
  obtain ⟨q, n, h, rfl⟩ := chunk_idx (N := 2) j
  exact (out5_apply (iblk m c 0 t) (iblk m c 1 t) (iblk m c 2 t) (ix3 0 r ⟨512 * q.val + n.val, h⟩)).trans
    ((blk_read m c (![id, geluE] : Fin 2 → EReal → EReal) 768 (by decide) t r q n h).trans
      (v44_apply (xm m c) (dm m c) (wm m c) (pb t) _ q n).symm)

/-- The recurrent block. The array after the run. -/
theorem final_5 : (dats m 0 c).arrAt 5 cfg0.N = val_main_v44 (F := Ideal) (xm m c) (dm m c) (wm m c) := by
  refine (dats m 0 c).arrAt_eq_of_covers 5 (val_main_v44 (F := Ideal) (xm m c) (dm m c) (wm m c)) (by decide +kernel) fun t hf y => ?_
  rw [after0_5]
  obtain ⟨r, j, rfl⟩ := blk_idx (N := 1024) y
  blk_simp
  refine (read_5 m c t r j).trans ?_
  blk_ext [index_5 t]

/-- The scan's inputs. At a grid point's block. -/
theorem read_6 (t : Fin grid0.N) (r : Fin 512) (j : Fin 2560) :
    out0_6 (iblk m c 0 t) (iblk m c 1 t) (iblk m c 2 t) (ix3 0 r j)
      = val_main_v48 (F := Ideal) (xm m c) (dm m c) (wm m c) (ix3 (pb t) (⟨512 * (pi t).val + r.val, by omega⟩ : Fin 4096) j) := by
  obtain ⟨q, n, h, rfl⟩ := chunk_idx (N := 5) j
  exact (out6_apply (iblk m c 0 t) (iblk m c 1 t) (iblk m c 2 t) (ix3 0 r ⟨512 * q.val + n.val, h⟩)).trans
    ((blk_read m c (![siluE, id, id, id, siluE] : Fin 5 → EReal → EReal) 1792 (by decide) t r q n h).trans
      (v48_apply (xm m c) (dm m c) (wm m c) (pb t) _ q n).symm)

/-- The scan's inputs. The array after the run. -/
theorem final_6 : (dats m 0 c).arrAt 6 cfg0.N = val_main_v48 (F := Ideal) (xm m c) (dm m c) (wm m c) := by
  refine (dats m 0 c).arrAt_eq_of_covers 6 (val_main_v48 (F := Ideal) (xm m c) (dm m c) (wm m c)) (by decide +kernel) fun t hf y => ?_
  rw [after0_6]
  obtain ⟨r, j, rfl⟩ := blk_idx (N := 2560) y
  blk_simp
  refine (read_6 m c t r j).trans ?_
  blk_ext [index_6 t]

/-- The gates. At a grid point's block. -/
theorem read_7 (t : Fin grid0.N) (r : Fin 512) (j : Fin 3072) :
    out0_7 (iblk m c 0 t) (iblk m c 1 t) (iblk m c 2 t) (ix3 0 r j)
      = val_main_v49 (F := Ideal) (xm m c) (dm m c) (wm m c) (ix3 (pb t) (⟨512 * (pi t).val + r.val, by omega⟩ : Fin 4096) j) := by
  exact (out7_apply (iblk m c 0 t) (iblk m c 1 t) (iblk m c 2 t) (ix3 0 r j)).trans
    ((prod_read m c t r (⟨4352 + j.val, by omega⟩ : Fin 7424)).trans (v49_apply (xm m c) (dm m c) (wm m c) (pb t) _ j).symm)

/-- The gates. The array after the run. -/
theorem final_7 : (dats m 0 c).arrAt 7 cfg0.N = val_main_v49 (F := Ideal) (xm m c) (dm m c) (wm m c) := by
  refine (dats m 0 c).arrAt_eq_of_covers 7 (val_main_v49 (F := Ideal) (xm m c) (dm m c) (wm m c)) (by decide +kernel) fun t hf y => ?_
  rw [after0_7]
  obtain ⟨r, j, rfl⟩ := blk_idx (N := 3072) y
  blk_simp
  refine (read_7 m c t r j).trans ?_
  blk_ext [index_7 t]

end Cert.Kernel2Ideal.Proj
-- ==== Proof.InClaim.lean ====
/- The input projection's frames and the equality of its results with the plain projection's. -/
module

public import proofs.«01_k».proof.Defs
public import proofs.«01_k».proof.Proof.Gen.Kernel2Ideal.Value
public import proofs.«01_k».proof.Proof.Gen.Reference2Ideal.Run
public import proofs.«01_k».proof.Proof.InValue

@[expose] public section

set_option maxRecDepth 16384

noncomputable section

namespace Cert.Proof

open Idealize.ShloMosaic Idealize.SL.Sem

theorem frame_ideal2 : Cert.quiescent_Kernel2Ideal (hKernel2Ideal := Cert.Kernel2Ideal.Gen.facts) := fun m g _ =>
  Cert.Kernel2Ideal.Gen.frame (F := Ideal) m g

theorem frame_reference2 : Cert.quiescent_Reference2Ideal (hReference2Ideal := Cert.Reference2Ideal.Gen.facts) := fun m g _ =>
  θ_run_mono (Cert.Reference2Ideal.Value.run (F := Ideal) m g) fun r h => ⟨fun c => (h c).2.2.2.2.2, sem_eq_zero_of_no_sems rfl r.2⟩

open Cert.Kernel2Ideal.Proj Cert.Reference2Ideal.Read in
theorem algebraic2 : Cert.algebraic_Kernel2Ideal_Reference2Ideal (hKernel2Ideal := Cert.Kernel2Ideal.Gen.facts)
    (hReference2Ideal := Cert.Reference2Ideal.Gen.facts) := fun m g m' g' _ hagree => by
  refine ⟨fun c => val_main_v27 (F := Ideal) (xm m c) (dm m c) (wm m c), fun c => val_main_v29 (F := Ideal) (xm m c) (dm m c) (wm m c),
    fun c => val_main_v44 (F := Ideal) (xm m c) (dm m c) (wm m c), fun c => val_main_v48 (F := Ideal) (xm m c) (dm m c) (wm m c),
    fun c => val_main_v49 (F := Ideal) (xm m c) (dm m c) (wm m c), ?_, ?_⟩
  · refine θ_run_mono (Cert.Kernel2Ideal.Value.run_blocks (F := Ideal) m g) fun r h c => ?_
    obtain ⟨h3, h4, h5, h6, h7, ha⟩ := h c
    exact ⟨h3.trans (final_3 m c), h4.trans (final_4 m c), h5.trans (final_5 m c), h6.trans (final_6 m c), h7.trans (final_7 m c), ha⟩
  · refine θ_run_mono (Cert.Reference2Ideal.Value.run (F := Ideal) m' g') fun r h c => ?_
    obtain ⟨h3, h4, h5, h6, h7, ha⟩ := h c
    obtain ⟨e0, e1, e2⟩ := hagree c
    refine ⟨h3.trans ((val_main_v27_eq (F := Ideal) _ _ _).trans ?_), h4.trans ((val_main_v29_eq (F := Ideal) _ _ _).trans ?_),
      h5.trans ((val_main_v44_eq (F := Ideal) m' c).trans ?_), h6.trans ((val_main_v48_eq (F := Ideal) m' c).trans ?_),
      h7.trans ((val_main_v49_eq (F := Ideal) _ _ _).trans ?_), ha⟩ <;>
      rw [e0, e1, e2]

end Cert.Proof

end
-- ==== Proof.Same3.lean ====
/- The merge's frame, from the run of its idealization: the two programs have one text, so their tables of bodies are equal. -/
module

public import proofs.«01_k».proof.Defs
public import proofs.«01_k».proof.Proof.Gen.Kernel3
public import proofs.«01_k».proof.Proof.Gen.Kernel3Ideal.Frame

@[expose] public section

set_option maxRecDepth 16384

noncomputable section

namespace Cert.Proof

open Idealize.ShloMosaic Idealize.SL.Sem

section

local instance kernel3Facts : Cert.Kernel3.Facts := Cert.Kernel3.Gen.facts

set_option maxHeartbeats 4000000 in
/-- The region's bodies are the same. -/
theorem bodies_eq₃ : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

theorem defs_eq₃ : Cert.Kernel3.defs (F := Bits) = Cert.Kernel3Ideal.defs (F := Bits) :=
  congrArg (Pipeline.defs (Cert.Kernel3Ideal.pcfgs (F := Bits))) bodies_eq₃

set_option maxHeartbeats 4000000 in
theorem main_eq₃ : Cert.Kernel3.main (F := Bits) = Cert.Kernel3Ideal.main (F := Bits) := rfl

end

/-- The kernel's frame. -/
theorem frame_kernel3 : Cert.quiescent_Kernel3 (hKernel3 := Cert.Kernel3.Gen.facts) := fun m ρ _ => by
  rw [defs_eq₃, main_eq₃]
  exact Cert.Kernel3Ideal.Gen.frame (F := Bits) m ρ

end Cert.Proof

end
-- ==== Proof.MergePay.lean ====
/-
  The merge's stored values, read at an index at the extended reals: the gated sum of three branch products, its product with the
  output weights, the residual, the layer normalization of a row, and the second modulation.
-/
module

public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Kernel3Ideal.Merge

open Cert.Kernel3Ideal Cert.Kernel3Ideal.Gen Idealize.ShloMosaic Idealize.ShloMosaic.Pointwise

/-- The logistic gate. -/
def gateE (y : EReal) : EReal := Ideal.div 1 (1 + Ideal.exp (0 - y))

/-- The residual: the token scaled, plus the mix under its gate. -/
def resE (x g y : EReal) : EReal := Ideal.ofBits .f32 0x3FD744FD#32 * x + (1 + g) * y

/-- A row's mean. -/
def meanE (y : Fin 1024 → EReal) : EReal := Ideal.div (∑ k : Fin 1024, y k) (Ideal.ofBits .f32 0x44800000#32)

/-- A row centred on its mean. -/
def devE (y : Fin 1024 → EReal) (n : Fin 1024) : EReal := y n - meanE y

/-- A row normalized, before the shift. -/
def normE (y : Fin 1024 → EReal) (g : EReal) (n : Fin 1024) : EReal :=
  devE y n * Ideal.rsqrt (meanE (fun k => devE y k * devE y k) + Ideal.ofBits .f32 0x3727C5AC#32) * g

theorem pay3_apply (x : Vec Ideal S1x256x512 .bf16) (w : Vec Ideal S512x1024 .bf16) (r : Fin 256) (n : Fin 1024) :
    k0_pay3 x w (ix2 r n) = ∑ k : Fin 512, (x (ix3 0 r k) * w (ix2 k n) : EReal) := by
  pointwise [k0_pay3]

/-- The gated sum of the branches times the output weights. -/
theorem mix_apply (pa pl ph : FVec Ideal S256x1024 .f32) (g0 g1 g2 : Vec Ideal S1x256x1024 .bf16) (w : Vec Ideal S1024x1024 .bf16)
    (r : Fin 256) (n : Fin 1024) :
    k0_pay14 ph (k0_pay11 pa pl g0 g1) (k0_pay12 g2) (k0_pay13 (F := Ideal)) w (ix2 r n)
      = ∑ k : Fin 1024, ((gateE (g0 (ix3 0 r k)) * pa (ix2 r k) + gateE (g1 (ix3 0 r k)) * pl (ix2 r k)
          + gateE (g2 (ix3 0 r k)) * ph (ix2 r k)) * w (ix2 k n) : EReal) := by
  pointwise [k0_pay14, k0_pay11, k0_pay12, k0_pay13, gateE]

theorem res_apply (md : Vec Ideal S1x6x1024 .f32) (mix : FVec Ideal S256x1024 .f32) (x : Vec Ideal S1x256x1024 .f32) (r : Fin 256) (n : Fin 1024) :
    k0_pay26 (k0_pay2 md) mix x (ix2 r n) = resE (x (ix3 0 r n)) (md (ix3 0 2 n)) (mix (ix2 r n)) := by
  pointwise [k0_pay26, k0_pay2, resE]

theorem norm_apply (y : FVec Ideal S256x1024 .f32) (g b : Vec Ideal S1x1024 .f32) (r : Fin 256) (n : Fin 1024) :
    k0_pay27 y g b (ix2 r n) = normE (fun k => y (ix2 r k)) (g (ix2 0 n)) n + b (ix2 0 n) := by
  pointwise [k0_pay27, normE, devE, meanE]

/-- The normalized half as it is stored. -/
theorem store15_apply (y : FVec Ideal S256x1024 .f32) (g b : Vec Ideal S1x1024 .f32) (r : Fin 256) (n : Fin 1024) :
    k0_pay28 y g b (ix3 0 r n) = k0_pay27 y g b (ix2 r n) := by
  pointwise [k0_pay28]

/-- The modulated half as it is stored. -/
theorem store16_apply (md : Vec Ideal S1x6x1024 .f32) (y : FVec Ideal S256x1024 .f32) (g b : Vec Ideal S1x1024 .f32) (r : Fin 256) (n : Fin 1024) :
    k0_pay30 (k0_pay2 md) y g b (ix3 0 r n) = (k0_pay27 y g b (ix2 r n) : EReal) * (1 + md (ix3 0 4 n)) + md (ix3 0 3 n) := by
  pointwise [k0_pay30, k0_pay29, k0_pay2]

end Cert.Kernel3Ideal.Merge
-- ==== Proof.MergeBody.lean ====
/-
  The merge's body: its two token blocks after the body, read at an index at the extended reals. The body works through a block in
  two halves of 256 rows, by the same operations.
-/
module

public import proofs.«01_k».proof.Proof.Gen.Kernel3Ideal.Frame
public import proofs.«01_k».proof.Proof.MergePay
public import Idealize.ShloMosaic.Lib.Pipeline.ValueKit
public import Idealize.ShloMosaic.Lib.Pipeline.ReadBack

@[expose] public section

set_option maxRecDepth 16384

noncomputable section

namespace Cert.Kernel3Ideal.Merge

open Cert.Kernel3Ideal Cert.Kernel3Ideal.Gen Idealize.ShloMosaic Idealize.ShloMosaic.Pointwise

variable (x0 x1 x2 : Vec Ideal S1x512x512 .bf16) (x3 x4 x5 : Vec Ideal S1x512x1024 .bf16) (x6 : Vec Ideal S1x512x1024 .f32)
  (x7 : Vec Ideal S1x6x1024 .f32) (x8 x9 x10 : Vec Ideal S512x1024 .bf16) (x11 : Vec Ideal S1024x1024 .bf16) (x12 x13 : Vec Ideal S1x1024 .f32)
  (x14 : Vec Ideal S1024x256 .bf16)

/-- A branch's product at a row of the block. -/
def brB (x : Vec Ideal S1x512x512 .bf16) (w : Vec Ideal S512x1024 .bf16) (r : Fin 512) (n : Fin 1024) : EReal :=
  ∑ k : Fin 512, (x (ix3 0 r k) * w (ix2 k n) : EReal)

/-- The row the normalization reads. -/
def rowB (r : Fin 512) (n : Fin 1024) : EReal :=
  resE (x6 (ix3 0 r n)) (x7 (ix3 0 2 n))
    (∑ k : Fin 1024, ((gateE (x3 (ix3 0 r k)) * brB x0 x8 r k + gateE (x4 (ix3 0 r k)) * brB x1 x9 r k
      + gateE (x5 (ix3 0 r k)) * brB x2 x10 r k) * x11 (ix2 k n) : EReal))

/-- The first block's entry. -/
def outB (r : Fin 512) (n : Fin 1024) : EReal :=
  normE (rowB x0 x1 x2 x3 x4 x5 x6 x7 x8 x9 x10 x11 r) (x12 (ix2 0 n)) n + x13 (ix2 0 n)

/-- The normalized tokens' block. -/
def blk15 : Vec Ideal S1x512x1024 .f32 := fun y => outB x0 x1 x2 x3 x4 x5 x6 x7 x8 x9 x10 x11 x12 x13 (y 1) (y 2)
/-- The modulated tokens' block. -/
def blk16 : Vec Ideal S1x512x1024 .f32 := fun y =>
  outB x0 x1 x2 x3 x4 x5 x6 x7 x8 x9 x10 x11 x12 x13 (y 1) (y 2) * (1 + x7 (ix3 0 4 (y 2))) + x7 (ix3 0 3 (y 2))

section

variable (off : ℕ) (ib : ∀ a : Fin 3, (![0, off, 0] : Fin 3 → ℕ) a + S1x256x512.size a ≤ S1x512x512.size a)
  (iw : ∀ a : Fin 3, (![0, off, 0] : Fin 3 → ℕ) a + S1x256x1024.size a ≤ S1x512x1024.size a)

/-- Half a block's rows. -/
abbrev halfB {e : EltTy} (x : Vec Ideal S1x512x512 e) : Vec Ideal S1x256x512 e :=
  View.ld x (Rect.unit (s := S1x512x512) ![0, off, 0] S1x256x512.size ib)
/-- Half a wide block's rows. -/
abbrev halfW {e : EltTy} (x : Vec Ideal S1x512x1024 e) : Vec Ideal S1x256x1024 e :=
  View.ld x (Rect.unit (s := S1x512x1024) ![0, off, 0] S1x256x1024.size iw)

theorem halfB_apply {e : EltTy} (x : Vec Ideal S1x512x512 e) (r : Fin 256) (k : Fin 512) (q : Fin 512) (hq : q.val = off + r.val) :
    halfB off ib x (ix3 0 r k) = x (ix3 0 q k) := by
  refine View.ld_unit_apply_of x ![0, off, 0] S1x256x512.size ib (ix3 0 r k) (ix3 0 q k) fun a => ?_
  match a with
  | ⟨0, _⟩ => rfl
  | ⟨1, _⟩ => exact hq
  | ⟨2, _⟩ => exact (Nat.zero_add _).symm

theorem halfW_apply {e : EltTy} (x : Vec Ideal S1x512x1024 e) (r : Fin 256) (k : Fin 1024) (q : Fin 512) (hq : q.val = off + r.val) :
    halfW off iw x (ix3 0 r k) = x (ix3 0 q k) := by
  refine View.ld_unit_apply_of x ![0, off, 0] S1x256x1024.size iw (ix3 0 r k) (ix3 0 q k) fun a => ?_
  match a with
  | ⟨0, _⟩ => rfl
  | ⟨1, _⟩ => exact hq
  | ⟨2, _⟩ => exact (Nat.zero_add _).symm

/-- Half a block's rows as the normalization reads them. -/
def resH : FVec Ideal S256x1024 .f32 :=
  k0_pay26 (k0_pay2 (View.ld x7 r0_0))
    (k0_pay14 (k0_pay3 (halfB off ib x2) (View.ld x10 r0_2))
      (k0_pay11 (k0_pay3 (halfB off ib x0) (View.ld x8 r0_2)) (k0_pay3 (halfB off ib x1) (View.ld x9 r0_2)) (halfW off iw x3) (halfW off iw x4))
      (k0_pay12 (halfW off iw x5)) (k0_pay13 (F := Ideal)) (View.ld x11 r0_5))
    (halfW off iw x6)

theorem br_half (x : Vec Ideal S1x512x512 .bf16) (w : Vec Ideal S512x1024 .bf16) (r : Fin 256) (n : Fin 1024) (q : Fin 512) (hq : q.val = off + r.val) :
    k0_pay3 (halfB off ib x) (View.ld w r0_2) (ix2 r n) = brB x w q n := by
  rw [View.ld_unit_lit _ w (by decide), pay3_apply]
  exact Finset.sum_congr rfl fun k _ => congrArg (fun a : EReal => a * w (ix2 k n)) (halfB_apply off ib x r k q hq)

theorem resH_apply (r : Fin 256) (n : Fin 1024) (q : Fin 512) (hq : q.val = off + r.val) :
    resH x0 x1 x2 x3 x4 x5 x6 x7 x8 x9 x10 x11 off ib iw (ix2 r n) = rowB x0 x1 x2 x3 x4 x5 x6 x7 x8 x9 x10 x11 q n := by
  unfold resH rowB
  rw [View.ld_unit_lit _ x7 (by decide), View.ld_unit_lit _ x11 (by decide), res_apply, mix_apply, halfW_apply off iw x6 r n q hq]
  refine congrArg (resE _ _) (Finset.sum_congr rfl fun k _ => ?_)
  rw [br_half off ib x0 x8 r k q hq, br_half off ib x1 x9 r k q hq, br_half off ib x2 x10 r k q hq, halfW_apply off iw x3 r k q hq,
    halfW_apply off iw x4 r k q hq, halfW_apply off iw x5 r k q hq]

theorem outH_apply (r : Fin 256) (n : Fin 1024) (q : Fin 512) (hq : q.val = off + r.val) :
    k0_pay27 (resH x0 x1 x2 x3 x4 x5 x6 x7 x8 x9 x10 x11 off ib iw) (View.ld x12 r0_7) (View.ld x13 r0_7) (ix2 r n)
      = outB x0 x1 x2 x3 x4 x5 x6 x7 x8 x9 x10 x11 x12 x13 q n := by
  unfold outB
  rw [View.ld_unit_lit _ x12 (by decide), View.ld_unit_lit _ x13 (by decide), norm_apply]
  exact congrArg (fun f => normE f (x12 (ix2 0 n)) n + x13 (ix2 0 n))
    (funext fun k => resH_apply x0 x1 x2 x3 x4 x5 x6 x7 x8 x9 x10 x11 off ib iw r k q hq)

theorem half_idx (x : S1x256x1024.Idx) : x = ix3 0 (x 1) (x 2) := funext fun a => by
  match a with
  | ⟨0, _⟩ => exact Fin.ext (by have h0 : (x 0).val < 1 := (x 0).isLt; show (x 0).val = 0; omega)
  | ⟨1, _⟩ => rfl
  | ⟨2, _⟩ => rfl

/-- A stored half of the first block. -/
theorem piece15 (x : S1x256x1024.Idx) (q : Fin 512) (n : Fin 1024) (hq : q.val = off + 1 * (x 1).val) (hn : n.val = 0 + 1 * (x 2).val) :
    k0_pay28 (resH x0 x1 x2 x3 x4 x5 x6 x7 x8 x9 x10 x11 off ib iw) (View.ld x12 r0_7) (View.ld x13 r0_7) x
      = outB x0 x1 x2 x3 x4 x5 x6 x7 x8 x9 x10 x11 x12 x13 q n := by
  obtain rfl : n = x 2 := Fin.ext (hn.trans (by omega))
  refine (congrArg (k0_pay28 _ _ _) (half_idx x)).trans ((store15_apply _ _ _ (x 1) (x 2)).trans ?_)
  exact outH_apply x0 x1 x2 x3 x4 x5 x6 x7 x8 x9 x10 x11 x12 x13 off ib iw (x 1) (x 2) q (hq.trans (by omega))

/-- A stored half of the second block. -/
theorem piece16 (x : S1x256x1024.Idx) (q : Fin 512) (n : Fin 1024) (hq : q.val = off + 1 * (x 1).val) (hn : n.val = 0 + 1 * (x 2).val) :
    k0_pay30 (k0_pay2 (View.ld x7 r0_0)) (resH x0 x1 x2 x3 x4 x5 x6 x7 x8 x9 x10 x11 off ib iw) (View.ld x12 r0_7) (View.ld x13 r0_7) x
      = outB x0 x1 x2 x3 x4 x5 x6 x7 x8 x9 x10 x11 x12 x13 q n * (1 + x7 (ix3 0 4 n)) + x7 (ix3 0 3 n) := by
  obtain rfl : n = x 2 := Fin.ext (hn.trans (by omega))
  refine (congrArg (k0_pay30 _ _ _ _) (half_idx x)).trans ((store16_apply _ _ _ _ (x 1) (x 2)).trans ?_)
  rw [View.ld_unit_lit _ x7 (by decide)]
  exact congrArg (fun a : EReal => a * (1 + x7 (ix3 0 4 (x 2))) + x7 (ix3 0 3 (x 2)))
    (outH_apply x0 x1 x2 x3 x4 x5 x6 x7 x8 x9 x10 x11 x12 x13 off ib iw (x 1) (x 2) q (hq.trans (by omega)))

end

theorem out15_apply (y : S1x512x1024.Idx) :
    out0_15 x0 x1 x2 x3 x4 x5 x6 x7 x8 x9 x10 x11 x12 x13 x14 y = blk15 x0 x1 x2 x3 x4 x5 x6 x7 x8 x9 x10 x11 x12 x13 y := by
  refine View.canon_append_of_piecesOf (blk15 x0 x1 x2 x3 x4 x5 x6 x7 x8 x9 x10 x11 x12 x13) [] [_, _] ⟨fun x => ?_, fun x => ?_, trivial⟩ y
    (cover0_15 _ _ y)
  · exact piece15 x0 x1 x2 x3 x4 x5 x6 x7 x8 x9 x10 x11 x12 x13 256 inb_S1x512x512_S1x256x512_0_256_0 inb_S1x512x1024_S1x256x1024_0_256_0 x _ _ rfl rfl
  · exact piece15 x0 x1 x2 x3 x4 x5 x6 x7 x8 x9 x10 x11 x12 x13 0 inb_S1x512x512_S1x256x512_0_0_0 inb_S1x512x1024_S1x256x1024_0_0_0 x _ _ rfl rfl

theorem out16_apply (y : S1x512x1024.Idx) :
    out0_16 x0 x1 x2 x3 x4 x5 x6 x7 x8 x9 x10 x11 x12 x13 x14 y = blk16 x0 x1 x2 x3 x4 x5 x6 x7 x8 x9 x10 x11 x12 x13 y := by
  refine View.canon_append_of_piecesOf (blk16 x0 x1 x2 x3 x4 x5 x6 x7 x8 x9 x10 x11 x12 x13) [] [_, _] ⟨fun x => ?_, fun x => ?_, trivial⟩ y
    (cover0_16 _ _ y)
  · exact piece16 x0 x1 x2 x3 x4 x5 x6 x7 x8 x9 x10 x11 x12 x13 256 inb_S1x512x512_S1x256x512_0_256_0 inb_S1x512x1024_S1x256x1024_0_256_0 x _ _ rfl rfl
  · exact piece16 x0 x1 x2 x3 x4 x5 x6 x7 x8 x9 x10 x11 x12 x13 0 inb_S1x512x512_S1x256x512_0_0_0 inb_S1x512x1024_S1x256x1024_0_0_0 x _ _ rfl rfl

end Cert.Kernel3Ideal.Merge
-- ==== Proof.MergeRef.lean ====
/-
  The plain merge read at an index at the extended reals: the gated sum of the branches, its product with the output weights, the
  residual, and the normalized row with its second modulation.
-/
module

public import proofs.«01_k».proof.Proof.Gen.Reference3Ideal.Read
public import proofs.«01_k».proof.Proof.MergePay

@[expose] public section

set_option maxRecDepth 16384

noncomputable section

namespace Cert.Reference3Ideal.Merge

open Cert.Reference3Ideal Cert.Reference3Ideal.Gen Cert.Reference3Ideal.Read Idealize.ShloMosaic Idealize.ShloMosaic.Pointwise
open Cert.Kernel3Ideal.Merge (gateE resE meanE devE normE)

variable (ya yl yh : FVec Ideal S16x4096x512 .bf16) (mg : FVec Ideal S16x4096x3072 .bf16) (x : FVec Ideal S16x4096x1024 .f32)
  (md : FVec Ideal S16x6144 .f32) (wa wl wh : FVec Ideal S512x1024 .f32) (wo : FVec Ideal S1024x1024 .f32) (lg lb : FVec Ideal S1024 .f32)
  (b : Fin 16) (s : Fin 4096)

/-- A branch's product. -/
def brE (y : FVec Ideal S16x4096x512 .bf16) (w : FVec Ideal S512x1024 .f32) (n : Fin 1024) : EReal :=
  ∑ k : Fin 512, (y (ix3 b s k) * w (ix2 k n) : EReal)

/-- The gated sum of the branches. -/
def sumE (n : Fin 1024) : EReal :=
  gateE (mg (ix3 b s (⟨n.val, by omega⟩ : Fin 3072))) * brE b s ya wa n
    + gateE (mg (ix3 b s (⟨1024 + n.val, by omega⟩ : Fin 3072))) * brE b s yl wl n
    + gateE (mg (ix3 b s (⟨2048 + n.val, by omega⟩ : Fin 3072))) * brE b s yh wh n

/-- The row the normalization reads. -/
def rowE (n : Fin 1024) : EReal :=
  resE (x (ix3 b s n)) (md (ix2 b (⟨2048 + n.val, by omega⟩ : Fin 6144)))
    (∑ k : Fin 1024, (sumE ya yl yh mg wa wl wh b s k * wo (ix2 k n) : EReal))

/-- The first result. -/
def outE (n : Fin 1024) : EReal := normE (rowE ya yl yh mg x md wa wl wh wo b s) (lg (ix1 n)) n + lb (ix1 n)

theorem one_bits : Ideal.ofBits .f32 0x3F800000#32 = (1 : EReal) := by
  simp [Ideal.ofBits, Ideal.ieee, -EReal.coe_mul]; norm_num

/-- A gate at an index. -/
theorem v14_of (o : ℕ) (n : Fin 1024) (h : o + n.val < 3072) (i : S16x4096x3x1024.Idx) (h0 : (i 0).val = b.val) (h1 : (i 1).val = s.val)
    (h2 : 1024 * (i 2).val = o) (h3 : (i 3).val = n.val) :
    val_main_v14 (F := Ideal) mg i = gateE (mg (ix3 b s (⟨o + n.val, h⟩ : Fin 3072))) := by
  have e : idx_main_v8 i = ix3 b s (⟨o + n.val, h⟩ : Fin 3072) := by
    have hi : (i 2).val < 3 := (i 2).isLt
    funext a
    match a with
    | ⟨0, _⟩ => exact Fin.ext (by show ((((i 0).val * 4096 + (i 1).val) * 3 + (i 2).val) * 1024 + (i 3).val) / 12582912 = b.val; omega)
    | ⟨1, _⟩ => exact Fin.ext (by show ((((i 0).val * 4096 + (i 1).val) * 3 + (i 2).val) * 1024 + (i 3).val) / 3072 % 4096 = s.val; omega)
    | ⟨2, _⟩ => exact Fin.ext (by show ((((i 0).val * 4096 + (i 1).val) * 3 + (i 2).val) * 1024 + (i 3).val) % 3072 = o + n.val; omega)
  rw [val_main_v14_apply, val_main_v13_apply, val_main_cst_0_apply, val_main_v12_apply, val_main_v11_apply, val_main_cst_apply,
    val_main_v10_apply, val_main_v9_apply, val_main_v8_apply, val_main_v7_apply, e]
  unfold gateE
  rw [zero_sub, ← one_bits]
  rfl

/-- A branch's product at an index. -/
theorem br18 (n : Fin 1024) : val_main_v18 (F := Ideal) ya wa (ix3 b s n) = brE b s ya wa n := by
  rw [val_main_v18_apply]
  refine Finset.sum_congr rfl fun k _ => congrArg₂ (fun a b : EReal => a * b) (congrArg ya (funext fun a => ?_)) (congrArg wa (funext fun a => ?_))
  · match a with
    | ⟨0, _⟩ => rfl
    | ⟨1, _⟩ => rfl
    | ⟨2, _⟩ => rfl
  · match a with
    | ⟨0, _⟩ => rfl
    | ⟨1, _⟩ => rfl

/-- The gated sum at an index. -/
theorem v31_apply (n : Fin 1024) : val_main_v31 (F := Ideal) ya yl yh mg wa wl wh (ix3 b s n) = sumE ya yl yh mg wa wl wh b s n := by
  have g0 : val_main_v16 (F := Ideal) mg (ix3 b s n) = gateE (mg (ix3 b s (⟨n.val, by omega⟩ : Fin 3072))) := by
    rw [val_main_v16_apply, val_main_v15_apply]
    refine (v14_of mg b s 0 n (by omega) _ ?_ ?_ ?_ ?_).trans (congrArg (fun j => gateE (mg (ix3 b s j))) (Fin.ext (Nat.zero_add _))) <;>
      simp [ix3] <;> omega
  have g1 : val_main_v21 (F := Ideal) mg (ix3 b s n) = gateE (mg (ix3 b s (⟨1024 + n.val, by omega⟩ : Fin 3072))) := by
    rw [val_main_v21_apply, val_main_v20_apply]
    refine v14_of mg b s 1024 n (by omega) _ ?_ ?_ ?_ ?_ <;> simp [ix3] <;> omega
  have g2 : val_main_v27 (F := Ideal) mg (ix3 b s n) = gateE (mg (ix3 b s (⟨2048 + n.val, by omega⟩ : Fin 3072))) := by
    rw [val_main_v27_apply, val_main_v26_apply]
    refine v14_of mg b s 2048 n (by omega) _ ?_ ?_ ?_ ?_ <;> simp [ix3] <;> omega
  unfold sumE
  rw [val_main_v31_apply, val_main_v25_apply, val_main_v19_apply, val_main_v24_apply, val_main_v30_apply, g0, g1, g2,
    ← br18 ya wa b s n, ← br18 yl wl b s n, ← br18 yh wh b s n]
  rfl

/-- The normalization's row at an index. -/
theorem v39_apply (n : Fin 1024) :
    val_main_v39 (F := Ideal) ya yl yh mg x md wa wl wh wo (ix3 b s n) = rowE ya yl yh mg x md wa wl wh wo b s n := by
  have h36 : val_main_v36 (F := Ideal) ya yl yh mg wa wl wh wo (ix3 b s n)
      = ∑ k : Fin 1024, (sumE ya yl yh mg wa wl wh b s k * wo (ix2 k n) : EReal) := by
    rw [val_main_v36_apply]
    refine Finset.sum_congr rfl fun k _ => congrArg₂ (fun a b : EReal => a * b) ?_ (congrArg wo (funext fun a => ?_))
    · refine (congrArg (val_main_v31 (F := Ideal) ya yl yh mg wa wl wh) (?_ : _ = ix3 b s k)).trans (v31_apply ya yl yh mg wa wl wh b s k)
      funext a
      match a with
      | ⟨0, _⟩ => rfl
      | ⟨1, _⟩ => rfl
      | ⟨2, _⟩ => rfl
    · match a with
      | ⟨0, _⟩ => rfl
      | ⟨1, _⟩ => rfl
  have hm : val_main_v3 (F := Ideal) md (idx_main_v37 (ix3 b s n)) = md (ix2 b (⟨2048 + n.val, by omega⟩ : Fin 6144)) := by
    rw [val_main_v3_apply, val_main_v0_apply]
    refine congrArg md (funext fun a => ?_)
    match a with
    | ⟨0, _⟩ => rfl
    | ⟨1, _⟩ => rfl
  unfold rowE resE
  rw [val_main_v39_apply, val_main_v33_apply, val_main_v32_apply, val_main_cst_1_apply, val_main_v38_apply, val_main_v37_apply,
    val_main_v35_apply, val_main_v34_apply, val_main_cst_2_apply, h36, hm, ← one_bits]
  rfl

/-- A row's mean, at an index of the mean's array. -/
theorem mean_of (v : FVec Ideal S16x4096x1024 .f32) (f : Fin 1024 → EReal) (h : ∀ k, v (ix3 b s k) = f k) (e : Fin 1024 → S16x4096x1024.Idx)
    (he : ∀ k, e k = ix3 b s k) (z : EReal) (hz : z = 0) :
    Ideal.div (z + ∑ k : Fin 1024, (v (e k) : EReal)) (Ideal.ofBits .f32 0x44800000#32) = meanE f := by
  unfold meanE
  rw [hz, zero_add]
  exact congrArg (fun a => Ideal.div a _) (Finset.sum_congr rfl fun k _ => (congrArg v (he k)).trans (h k))

theorem zero_bits : Ideal.ofBits .f32 0x00000000#32 = (0 : EReal) := by
  simp [Ideal.ofBits, Ideal.ieee]

theorem v43_apply (i : S16x4096x1.Idx) (h0 : (i 0).val = b.val) (h1 : (i 1).val = s.val) :
    val_main_v43 (F := Ideal) ya yl yh mg x md wa wl wh wo i = meanE (rowE ya yl yh mg x md wa wl wh wo b s) := by
  rw [val_main_v43_apply, val_main_v41_apply, val_main_v40_apply, val_main_v42_apply, val_main_cst_4_apply, val_main_cst_3_apply]
  refine mean_of b s _ _ (fun k => v39_apply ya yl yh mg x md wa wl wh wo b s k) _ (fun k => funext fun a => ?_) _ zero_bits
  match a with
  | ⟨0, _⟩ => exact Fin.ext h0
  | ⟨1, _⟩ => exact Fin.ext h1
  | ⟨2, _⟩ => rfl

theorem v45_apply (n : Fin 1024) :
    val_main_v45 (F := Ideal) ya yl yh mg x md wa wl wh wo (ix3 b s n) = devE (rowE ya yl yh mg x md wa wl wh wo b s) n := by
  rw [val_main_v45_apply, val_main_v44_apply, v39_apply, v43_apply ya yl yh mg x md wa wl wh wo b s _ rfl rfl]
  rfl

theorem v52_apply (n : Fin 1024) :
    val_main_v52 (F := Ideal) ya yl yh mg x md wa wl wh wo (ix3 b s n) = devE (rowE ya yl yh mg x md wa wl wh wo b s) n := by
  rw [val_main_v52_apply, val_main_v51_apply, v39_apply, v43_apply ya yl yh mg x md wa wl wh wo b s _ rfl rfl]
  rfl

theorem v50_apply (i : S16x4096x1.Idx) (h0 : (i 0).val = b.val) (h1 : (i 1).val = s.val) :
    val_main_v50 (F := Ideal) ya yl yh mg x md wa wl wh wo i
      = meanE fun k => devE (rowE ya yl yh mg x md wa wl wh wo b s) k * devE (rowE ya yl yh mg x md wa wl wh wo b s) k := by
  rw [val_main_v50_apply, val_main_v48_apply, val_main_v47_apply, val_main_v49_apply, val_main_cst_6_apply, val_main_cst_5_apply]
  refine mean_of b s _ _ (fun k => ?_) _ (fun k => funext fun a => ?_) _ zero_bits
  · rw [val_main_v46_apply, v45_apply]
    rfl
  · match a with
    | ⟨0, _⟩ => exact Fin.ext h0
    | ⟨1, _⟩ => exact Fin.ext h1
    | ⟨2, _⟩ => rfl

/-- The first result at an index. -/
theorem v63_apply (n : Fin 1024) :
    val_main_v63 (F := Ideal) ya yl yh mg x md wa wl wh wo lg lb (ix3 b s n) = outE ya yl yh mg x md wa wl wh wo lg lb b s n := by
  have hg : val_main_v59 (F := Ideal) lg (ix3 b s n) = lg (ix1 n) := by
    rw [val_main_v59_apply, val_main_v58_apply]
    refine congrArg lg (funext fun a => ?_)
    match a with
    | ⟨0, _⟩ => rfl
  have hb : val_main_v62 (F := Ideal) lb (ix3 b s n) = lb (ix1 n) := by
    rw [val_main_v62_apply, val_main_v61_apply]
    refine congrArg lb (funext fun a => ?_)
    match a with
    | ⟨0, _⟩ => rfl
  rw [val_main_v63_apply, val_main_v60_apply, val_main_v57_apply, v52_apply, val_main_v56_apply, val_main_v55_apply, val_main_v54_apply,
    v50_apply ya yl yh mg x md wa wl wh wo b s _ rfl rfl, val_main_v53_apply, val_main_cst_7_apply, hg, hb]
  rfl

/-- The second result at an index. -/
theorem v69_apply (n : Fin 1024) :
    val_main_v69 (F := Ideal) ya yl yh mg x md wa wl wh wo lg lb (ix3 b s n)
      = outE ya yl yh mg x md wa wl wh wo lg lb b s n * (1 + md (ix2 b (⟨4096 + n.val, by omega⟩ : Fin 6144)))
        + md (ix2 b (⟨3072 + n.val, by omega⟩ : Fin 6144)) := by
  have h5 : val_main_v5 (F := Ideal) md (idx_main_v66 (ix3 b s n)) = md (ix2 b (⟨4096 + n.val, by omega⟩ : Fin 6144)) := by
    rw [val_main_v5_apply, val_main_v0_apply]
    refine congrArg md (funext fun a => ?_)
    match a with
    | ⟨0, _⟩ => rfl
    | ⟨1, _⟩ => rfl
  have h4 : val_main_v4 (F := Ideal) md (idx_main_v68 (ix3 b s n)) = md (ix2 b (⟨3072 + n.val, by omega⟩ : Fin 6144)) := by
    rw [val_main_v4_apply, val_main_v0_apply]
    refine congrArg md (funext fun a => ?_)
    match a with
    | ⟨0, _⟩ => rfl
    | ⟨1, _⟩ => rfl
  rw [val_main_v69_apply, val_main_v67_apply, v63_apply, val_main_v66_apply, val_main_v65_apply, val_main_v64_apply, val_main_cst_8_apply,
    val_main_v68_apply, h5, h4, ← one_bits]
  rfl

end Cert.Reference3Ideal.Merge
-- ==== Proof.MergeBlocks.lean ====
/- The merge's input blocks at a grid point, read at an index: the entries of the arguments they hold. -/
module

public import proofs.«01_k».proof.Proof.MergeBody
public import proofs.«01_k».proof.Proof.MergeRef
public import Idealize.ShloMosaic.Lib.Claim

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Pointwise Idealize.ShloMosaic.StableHlo
open Cert.Reference3Ideal.Merge (brE sumE rowE outE)

/-- The batch entry and the token tile of a grid point. -/
abbrev pb (t : Fin grid0.N) : Fin 16 := grid0.coords t 0
abbrev pi (t : Fin grid0.N) : Fin 8 := grid0.coords t 1

theorem index_0 : ∀ t : Fin grid0.N, win0_0.index t = ![(pb t).val, (pi t).val, 0] := by decide +kernel
theorem index_1 : ∀ t : Fin grid0.N, win0_1.index t = ![(pb t).val, (pi t).val, 0] := by decide +kernel
theorem index_2 : ∀ t : Fin grid0.N, win0_2.index t = ![(pb t).val, (pi t).val, 0] := by decide +kernel
theorem index_3 : ∀ t : Fin grid0.N, win0_3.index t = ![(pb t).val, (pi t).val, 0] := by decide +kernel
theorem index_4 : ∀ t : Fin grid0.N, win0_4.index t = ![(pb t).val, (pi t).val, 1] := by decide +kernel
theorem index_5 : ∀ t : Fin grid0.N, win0_5.index t = ![(pb t).val, (pi t).val, 2] := by decide +kernel
theorem index_6 : ∀ t : Fin grid0.N, win0_6.index t = ![(pb t).val, (pi t).val, 0] := by decide +kernel
theorem index_7 : ∀ t : Fin grid0.N, win0_7.index t = ![(pb t).val, 0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel
theorem index_15 : ∀ t : Fin grid0.N, win0_15.index t = ![(pb t).val, (pi t).val, 0] := by decide +kernel
theorem index_16 : ∀ t : Fin grid0.N, win0_16.index t = ![(pb t).val, (pi t).val, 0] := by decide +kernel

variable (m : (ℓ : Loc nD τ sig) → Buf (Elt Ideal) ℓ) (c : Dev nD) (t : Fin grid0.N)

abbrev yam : FVec Ideal S16x4096x512 .bf16 := m ((c : Thread nD τ).loc main_arg0)
abbrev ylm : FVec Ideal S16x4096x512 .bf16 := m ((c : Thread nD τ).loc main_arg1)
abbrev yhm : FVec Ideal S16x4096x512 .bf16 := m ((c : Thread nD τ).loc main_arg2)
abbrev mgm : FVec Ideal S16x4096x3072 .bf16 := m ((c : Thread nD τ).loc main_arg3)
abbrev xm : FVec Ideal S16x4096x1024 .f32 := m ((c : Thread nD τ).loc main_arg4)
abbrev dm : FVec Ideal S16x6144 .f32 := m ((c : Thread nD τ).loc main_arg5)
abbrev wam : FVec Ideal S512x1024 .f32 := m ((c : Thread nD τ).loc main_arg6)
abbrev wlm : FVec Ideal S512x1024 .f32 := m ((c : Thread nD τ).loc main_arg7)
abbrev whm : FVec Ideal S512x1024 .f32 := m ((c : Thread nD τ).loc main_arg8)
abbrev wom : FVec Ideal S1024x1024 .f32 := m ((c : Thread nD τ).loc main_arg9)
abbrev gm : FVec Ideal S1024 .f32 := m ((c : Thread nD τ).loc main_arg10)
abbrev bm : FVec Ideal S1024 .f32 := m ((c : Thread nD τ).loc main_arg11)

theorem V_mod : V m c main_v9 = shapeCast S16x6x1024 (dm m c) shapeCasts_S16x6144_S16x6x1024 := by
  unfold_abbrev_sides
  simp only [hostOps0, hostOps0_1, hostOps0_2, List.flatten_cons, List.flatten_nil, List.append_nil, List.cons_append, List.nil_append]
  after_results
  rfl

theorem V_wa : V m c main_v10 = (truncf .bf16 (wam m c) bitsLt_bf16_f32 : FVec Ideal S512x1024 .bf16) := by
  unfold_abbrev_sides
  simp only [hostOps0, hostOps0_1, hostOps0_2, List.flatten_cons, List.flatten_nil, List.append_nil, List.cons_append, List.nil_append]
  after_results

theorem V_wl : V m c main_v11 = (truncf .bf16 (wlm m c) bitsLt_bf16_f32 : FVec Ideal S512x1024 .bf16) := by
  unfold_abbrev_sides
  simp only [hostOps0, hostOps0_1, hostOps0_2, List.flatten_cons, List.flatten_nil, List.append_nil, List.cons_append, List.nil_append]
  after_results

theorem V_wh : V m c main_v12 = (truncf .bf16 (whm m c) bitsLt_bf16_f32 : FVec Ideal S512x1024 .bf16) := by
  unfold_abbrev_sides
  simp only [hostOps0, hostOps0_1, hostOps0_2, List.flatten_cons, List.flatten_nil, List.append_nil, List.cons_append, List.nil_append]
  after_results

theorem V_wo : V m c main_v13 = (truncf .bf16 (wom m c) bitsLt_bf16_f32 : FVec Ideal S1024x1024 .bf16) := by
  unfold_abbrev_sides
  simp only [hostOps0, hostOps0_1, hostOps0_2, List.flatten_cons, List.flatten_nil, List.append_nil, List.cons_append, List.nil_append]
  after_results

theorem V_g : V m c main_v14 = broadcastInDim S1x1024 ![1] bcast_S1024_S1x1024_1 (gm m c) := by
  unfold_abbrev_sides
  simp only [hostOps0, hostOps0_1, hostOps0_2, List.flatten_cons, List.flatten_nil, List.append_nil, List.cons_append, List.nil_append]
  after_results

theorem V_b : V m c main_v15 = broadcastInDim S1x1024 ![1] bcast_S1024_S1x1024_1 (bm m c) := by
  unfold_abbrev_sides
  simp only [hostOps0, hostOps0_1, hostOps0_2, List.flatten_cons, List.flatten_nil, List.append_nil, List.cons_append, List.nil_append]
  after_results

/-- The modulation vector's sixth `j`. -/
theorem mod_host (d : FVec Ideal S16x6144 .f32) (b : Fin 16) (j : Fin 6) (k : Fin 1024) :
    (shapeCast S16x6x1024 d shapeCasts_S16x6144_S16x6x1024 : FVec Ideal S16x6x1024 .f32) (ix3 b j k)
      = d (ix2 b (⟨1024 * j.val + k.val, by omega⟩ : Fin 6144)) := by
  refine shapeCast_apply d shapeCasts_S16x6144_S16x6x1024 _ (ix2 b (⟨1024 * j.val + k.val, by omega⟩ : Fin 6144)) ?_
  rw [Shape.rowMajor_val_two, Shape.rowMajor_val_three]
  show b.val * 6144 + (1024 * j.val + k.val) = (b.val * 6 + j.val) * 1024 + k.val
  omega

/-- A vector laid out as a row. -/
theorem row_host (v : FVec Ideal S1024 .f32) (n : Fin 1024) :
    (broadcastInDim S1x1024 ![1] bcast_S1024_S1x1024_1 v : FVec Ideal S1x1024 .f32) (ix2 0 n) = v (ix1 n) := by
  pointwise

/-- The token of a row of a grid point's block. -/
abbrev tok (r : Fin 512) : Fin 4096 := ⟨512 * (pi t).val + r.val, by omega⟩

theorem iblk_0 (r k : Fin 512) : iblk m c 0 t (ix3 0 r k) = yam m c (ix3 (pb t) (tok t r) k) := by
  refine Eq.trans ?_ (congrFun (V_main_arg0 m c) _)
  blk_ext [iblk, index_0 t]

theorem iblk_1 (r k : Fin 512) : iblk m c 1 t (ix3 0 r k) = ylm m c (ix3 (pb t) (tok t r) k) := by
  refine Eq.trans ?_ (congrFun (V_main_arg1 m c) _)
  blk_ext [iblk, index_1 t]

theorem iblk_2 (r k : Fin 512) : iblk m c 2 t (ix3 0 r k) = yhm m c (ix3 (pb t) (tok t r) k) := by
  refine Eq.trans ?_ (congrFun (V_main_arg2 m c) _)
  blk_ext [iblk, index_2 t]

theorem iblk_3 (r : Fin 512) (k : Fin 1024) : iblk m c 3 t (ix3 0 r k) = mgm m c (ix3 (pb t) (tok t r) (⟨k.val, by omega⟩ : Fin 3072)) := by
  refine Eq.trans ?_ (congrFun (V_main_arg3 m c) _)
  blk_ext [iblk, index_3 t]

theorem iblk_4 (r : Fin 512) (k : Fin 1024) : iblk m c 4 t (ix3 0 r k) = mgm m c (ix3 (pb t) (tok t r) (⟨1024 + k.val, by omega⟩ : Fin 3072)) := by
  refine Eq.trans ?_ (congrFun (V_main_arg3 m c) _)
  blk_ext [iblk, index_4 t]

theorem iblk_5 (r : Fin 512) (k : Fin 1024) : iblk m c 5 t (ix3 0 r k) = mgm m c (ix3 (pb t) (tok t r) (⟨2048 + k.val, by omega⟩ : Fin 3072)) := by
  refine Eq.trans ?_ (congrFun (V_main_arg3 m c) _)
  blk_ext [iblk, index_5 t]

theorem iblk_6 (r : Fin 512) (k : Fin 1024) : iblk m c 6 t (ix3 0 r k) = xm m c (ix3 (pb t) (tok t r) k) := by
  refine Eq.trans ?_ (congrFun (V_main_arg4 m c) _)
  blk_ext [iblk, index_6 t]

theorem iblk_7 (j : Fin 6) (k : Fin 1024) :
    iblk m c 7 t (ix3 0 j k) = dm m c (ix2 (pb t) (⟨1024 * j.val + k.val, by omega⟩ : Fin 6144)) := by
  refine Eq.trans ?_ ((congrFun (V_mod m c) (ix3 (pb t) j k)).trans (mod_host _ _ _ _))
  blk_ext [iblk, index_7 t]

theorem iblk_8 (k : Fin 512) (n : Fin 1024) : iblk m c 8 t (ix2 k n) = wam m c (ix2 k n) := by
  refine Eq.trans ?_ (congrFun (V_wa m c) (ix2 k n))
  blk_ext [iblk, index_8 t]

theorem iblk_9 (k : Fin 512) (n : Fin 1024) : iblk m c 9 t (ix2 k n) = wlm m c (ix2 k n) := by
  refine Eq.trans ?_ (congrFun (V_wl m c) (ix2 k n))
  blk_ext [iblk, index_9 t]

theorem iblk_10 (k : Fin 512) (n : Fin 1024) : iblk m c 10 t (ix2 k n) = whm m c (ix2 k n) := by
  refine Eq.trans ?_ (congrFun (V_wh m c) (ix2 k n))
  blk_ext [iblk, index_10 t]

theorem iblk_11 (k n : Fin 1024) : iblk m c 11 t (ix2 k n) = wom m c (ix2 k n) := by
  refine Eq.trans ?_ (congrFun (V_wo m c) (ix2 k n))
  blk_ext [iblk, index_11 t]

theorem iblk_12 (n : Fin 1024) : iblk m c 12 t (ix2 0 n) = gm m c (ix1 n) := by
  refine Eq.trans ?_ ((congrFun (V_g m c) (ix2 0 n)).trans (row_host _ n))
  blk_ext [iblk, index_12 t]

theorem iblk_13 (n : Fin 1024) : iblk m c 13 t (ix2 0 n) = bm m c (ix1 n) := by
  refine Eq.trans ?_ ((congrFun (V_b m c) (ix2 0 n)).trans (row_host _ n))
  blk_ext [iblk, index_13 t]

/-- A sixth of the modulation vector, at its plain offset. -/
theorem iblk_mod (j : Fin 6) (o : ℕ) (ho : 1024 * j.val = o) (k : Fin 1024) (h : o + k.val < 6144) :
    iblk m c 7 t (ix3 0 j k) = dm m c (ix2 (pb t) (⟨o + k.val, h⟩ : Fin 6144)) :=
  (iblk_7 m c t j k).trans (congrArg (fun i => dm m c (ix2 (pb t) i)) (Fin.ext (congrArg (· + k.val) ho)))

/-- A branch's product at a grid point is the reference's at its tokens. -/
theorem br_read (x : Vec Ideal S1x512x512 .bf16) (w : Vec Ideal S512x1024 .bf16) (y : FVec Ideal S16x4096x512 .bf16) (u : FVec Ideal S512x1024 .f32)
    (r : Fin 512) (n : Fin 1024) (hx : ∀ k, x (ix3 0 r k) = y (ix3 (pb t) (tok t r) k)) (hw : ∀ k, w (ix2 k n) = u (ix2 k n)) :
    brB x w r n = brE (pb t) (tok t r) y u n :=
  Finset.sum_congr rfl fun k _ => congrArg₂ (fun a b : EReal => a * b) (hx k) (hw k)

/-- A grid point's row is the reference's at its token. -/
theorem row_read (r : Fin 512) (n : Fin 1024) :
    rowB (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) r n
      = rowE (yam m c) (ylm m c) (yhm m c) (mgm m c) (xm m c) (dm m c) (wam m c) (wlm m c) (whm m c) (wom m c) (pb t) (tok t r) n := by
  unfold rowB rowE
  have h : ∀ {a b : EReal} (f : EReal → EReal → EReal → EReal) {a' b' d d' : EReal}, a = a' → b = b' → d = d' → f a b d = f a' b' d' := by
    rintro _ _ _ _ _ _ _ rfl rfl rfl
    rfl
  refine h resE (iblk_6 m c t r n) (iblk_mod m c t 2 2048 rfl n (by omega)) (Finset.sum_congr rfl fun k _ => ?_)
  refine congrArg₂ (fun a b : EReal => a * b) ?_ (iblk_11 m c t k n)
  unfold sumE
  refine h (fun a b d : EReal => a + b + d) ?_ ?_ ?_
  · exact congrArg₂ (fun a b : EReal => gateE a * b) (iblk_3 m c t r k)
      (br_read t (iblk m c 0 t) (iblk m c 8 t) (yam m c) (wam m c) r k (iblk_0 m c t r) fun j => iblk_8 m c t j k)
  · exact congrArg₂ (fun a b : EReal => gateE a * b) (iblk_4 m c t r k)
      (br_read t (iblk m c 1 t) (iblk m c 9 t) (ylm m c) (wlm m c) r k (iblk_1 m c t r) fun j => iblk_9 m c t j k)
  · exact congrArg₂ (fun a b : EReal => gateE a * b) (iblk_5 m c t r k)
      (br_read t (iblk m c 2 t) (iblk m c 10 t) (yhm m c) (whm m c) r k (iblk_2 m c t r) fun j => iblk_10 m c t j k)

/-- A grid point's entry of the first block is the reference's at its token. -/
theorem out_read (r : Fin 512) (n : Fin 1024) :
    outB (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) r n
      = outE (yam m c) (ylm m c) (yhm m c) (mgm m c) (xm m c) (dm m c) (wam m c) (wlm m c) (whm m c) (wom m c) (gm m c) (bm m c) (pb t) (tok t r) n := by
  unfold outB outE
  refine congrArg₂ (fun a b : EReal => a + b) ?_ (iblk_13 m c t n)
  exact congrArg₂ (fun f a => normE f a n) (funext fun k => row_read m c t r k) (iblk_12 m c t n)

end Cert.Kernel3Ideal.Merge
-- ==== Proof.MergeValue.lean ====
/-
  The merge's RESULT ARRAYS: each grid point's blocks are the reference's results there, and the blocks tile the arrays.
-/
module

public import proofs.«01_k».proof.Proof.MergeBlocks

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Pointwise
open Cert.Reference3Ideal.Merge (outE v63_apply v69_apply)
open Cert.Reference3Ideal.Read (val_main_v63 val_main_v69)

variable (m : (ℓ : Loc nD τ sig) → Buf (Elt Ideal) ℓ) (c : Dev nD)

/-- The reference's first result at the arguments. -/
abbrev ref63 : FVec Ideal S16x4096x1024 .f32 :=
  val_main_v63 (F := Ideal) (yam m c) (ylm m c) (yhm m c) (mgm m c) (xm m c) (dm m c) (wam m c) (wlm m c) (whm m c) (wom m c) (gm m c) (bm m c)
/-- The reference's second result at the arguments. -/
abbrev ref69 : FVec Ideal S16x4096x1024 .f32 :=
  val_main_v69 (F := Ideal) (yam m c) (ylm m c) (yhm m c) (mgm m c) (xm m c) (dm m c) (wam m c) (wlm m c) (whm m c) (wom m c) (gm m c) (bm m c)

/-- An index of a block. -/
theorem blk_idx (y : S1x512x1024.Idx) : ∃ (r : Fin 512) (n : Fin 1024), y = ix3 0 r n :=
  ⟨y 1, y 2, funext fun a => by
    match a with
    | ⟨0, _⟩ => exact Fin.ext (by have h0 : (y 0).val < 1 := (y 0).isLt; show (y 0).val = 0; omega)
    | ⟨1, _⟩ => rfl
    | ⟨2, _⟩ => rfl⟩

/-- The normalized tokens, at a grid point's block. -/
theorem read_15 (t : Fin grid0.N) (r : Fin 512) (n : Fin 1024) :
    out0_15 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (ix3 0 r n)
      = ref63 m c (ix3 (pb t) (tok t r) n) :=
  (out15_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (ix3 0 r n)).trans
    ((out_read m c t r n).trans (v63_apply (yam m c) (ylm m c) (yhm m c) (mgm m c) (xm m c) (dm m c) (wam m c) (wlm m c) (whm m c) (wom m c)
      (gm m c) (bm m c) (pb t) (tok t r) n).symm)

/-- The modulated tokens, at a grid point's block. -/
theorem read_16 (t : Fin grid0.N) (r : Fin 512) (n : Fin 1024) :
    out0_16 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (ix3 0 r n)
      = ref69 m c (ix3 (pb t) (tok t r) n) := by
  refine (out16_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (ix3 0 r n)).trans
    (Eq.trans ?_ (v69_apply (yam m c) (ylm m c) (yhm m c) (mgm m c) (xm m c) (dm m c) (wam m c) (wlm m c) (whm m c) (wom m c)
      (gm m c) (bm m c) (pb t) (tok t r) n).symm)
  refine congrArg₂ (fun a b : EReal => a + b) (congrArg₂ (fun a b : EReal => a * (1 + b)) (out_read m c t r n) ?_) ?_
  · exact iblk_mod m c t 4 4096 rfl n (by omega)
  · exact iblk_mod m c t 3 3072 rfl n (by omega)

/-- The normalized tokens after the run. -/
theorem final_15 : (dats m 0 c).arrAt 15 cfg0.N = ref63 m c := by
  refine (dats m 0 c).arrAt_eq_of_covers 15 (ref63 m c) (by decide +kernel) fun t hf y => ?_
  rw [after0_15]
  obtain ⟨r, n, rfl⟩ := blk_idx y
  blk_simp
  refine (read_15 m c t r n).trans ?_
  blk_ext [index_15 t]

/-- The modulated tokens after the run. -/
theorem final_16 : (dats m 0 c).arrAt 16 cfg0.N = ref69 m c := by
  refine (dats m 0 c).arrAt_eq_of_covers 16 (ref69 m c) (by decide +kernel) fun t hf y => ?_
  rw [after0_16]
  obtain ⟨r, n, rfl⟩ := blk_idx y
  blk_simp
  refine (read_16 m c t r n).trans ?_
  blk_ext [index_16 t]

end Cert.Kernel3Ideal.Merge
-- ==== Proof.MergeClaim.lean ====
/- The merge's frames and the equality of its results with the plain merge's. -/
module

public import proofs.«01_k».proof.Defs
public import proofs.«01_k».proof.Proof.Gen.Kernel3Ideal.Value
public import proofs.«01_k».proof.Proof.Gen.Reference3Ideal.Run
public import proofs.«01_k».proof.Proof.MergeValue

@[expose] public section

set_option maxRecDepth 16384

noncomputable section

namespace Cert.Proof

open Idealize.ShloMosaic Idealize.SL.Sem

theorem frame_ideal3 : Cert.quiescent_Kernel3Ideal (hKernel3Ideal := Cert.Kernel3Ideal.Gen.facts) := fun m g _ =>
  Cert.Kernel3Ideal.Gen.frame (F := Ideal) m g

theorem frame_reference3 : Cert.quiescent_Reference3Ideal (hReference3Ideal := Cert.Reference3Ideal.Gen.facts) := fun m g _ =>
  θ_run_mono (Cert.Reference3Ideal.Value.run (F := Ideal) m g) fun r h => ⟨fun c => (h c).2.2, sem_eq_zero_of_no_sems rfl r.2⟩

open Cert.Kernel3Ideal.Merge Cert.Reference3Ideal.Read in
theorem algebraic3 : Cert.algebraic_Kernel3Ideal_Reference3Ideal (hKernel3Ideal := Cert.Kernel3Ideal.Gen.facts)
    (hReference3Ideal := Cert.Reference3Ideal.Gen.facts) := fun m g m' g' _ hagree => by
  refine ⟨fun c => ref63 m c, fun c => ref69 m c, ?_, ?_⟩
  · refine θ_run_mono (Cert.Kernel3Ideal.Value.run_blocks (F := Ideal) m g) fun r h c => ?_
    obtain ⟨h15, h16, _, ha⟩ := h c
    exact ⟨h15.trans (final_15 m c), h16.trans (final_16 m c), ha⟩
  · refine θ_run_mono (Cert.Reference3Ideal.Value.run (F := Ideal) m' g') fun r h c => ?_
    obtain ⟨h0, h1, ha⟩ := h c
    obtain ⟨e0, e1, e2, e3, e4, e5, e6, e7, e8, e9, e10, e11, _, _⟩ := hagree c
    refine ⟨h0.trans ((val_main_v63_eq (F := Ideal) m' c).trans ?_), h1.trans ((val_main_v69_eq (F := Ideal) m' c).trans ?_), ha⟩ <;>
      rw [e0, e1, e2, e3, e4, e5, e6, e7, e8, e9, e10, e11]

end Cert.Proof

end
-- ==== Proof.lean ====
/- The certificate of the attention and the input projection: the programs' frames, the references', and the equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Run
public import proofs.«01_k».proof.Proof.Value
public import proofs.«01_k».proof.Proof.Same
public import proofs.«01_k».proof.Proof.Finite
public import proofs.«01_k».proof.Proof.Same2
public import proofs.«01_k».proof.Proof.InClaim
public import proofs.«01_k».proof.Proof.Same3
public import proofs.«01_k».proof.Proof.MergeClaim
public import Idealize.ShloMosaic.Adequacy
public import Idealize.ShloMosaic.Init

@[expose] public section

set_option maxRecDepth 16384

noncomputable section

namespace Cert.Proof

open Idealize.ShloMosaic Idealize.SL.Sem Cert.Kernel

theorem frame_ideal : Cert.quiescent_KernelIdeal (hKernelIdeal := Cert.KernelIdeal.Gen.facts) := fun m g _ =>
  Cert.KernelIdeal.Att.frame (F := Ideal) m g

theorem frame_reference : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems rfl r.2⟩

/-- The kernel's run with its result array. -/
theorem run_ideal (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite (hPre_finite := Cert.Pre_finite.Gen.facts) m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v22) = Cert.KernelIdeal.Att.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  θ_run_mono (θ_run_and (Cert.KernelIdeal.Att.run_main (F := Ideal) m g) (frame_ideal m g trivial)) fun r h c => by
    obtain ⟨⟨qr, hq⟩, kr, hk⟩ := Cert.Pre_finite.reals _ _ _ (hpre c)
    exact ⟨(h.1.1.out_eq c 3).trans (Cert.KernelIdeal.Att.final m c qr kr hq hk), h.2.1 c⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' hpre hagree => by
    refine ⟨fun c => Cert.KernelIdeal.Att.result m c, run_ideal m g hpre, ?_⟩
    refine θ_run_mono (Cert.ReferenceIdeal.Value.run (F := Ideal) m' g') fun r h c => ⟨(h c).1.trans ?_, (h c).2⟩
    refine (Cert.ReferenceIdeal.Read.val_main_v19_eq (F := Ideal) _ _ _).trans ?_
    rw [(hagree c).1, (hagree c).2.1, (hagree c).2.2]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite.Gen.facts,
  frame_kernel, frame_ideal, fun m g _ => frame_ideal m g trivial, frame_reference,
  fun m g _ => frame_reference m g trivial, frame_kernel2, frame_ideal2, frame_reference2, frame_kernel3, frame_ideal3, frame_reference3,
  trivial, algebraic, trivial, algebraic2, trivial, algebraic3⟩

end Cert.Proof

end
